-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_exact [hPre_scales_exact : Cert.Pre_scales_exact.Facts] (m : (ℓ : Loc Cert.KernelIdeal.nD Cert.KernelIdeal.τ Cert.KernelIdeal.sig) → Buf (Elt Ideal) ℓ) : Prop :=
  ∀ c : Dev Cert.KernelIdeal.nD,
    (Cert.Pre_scales_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_exact [hPre_scales_exact : Cert.Pre_scales_exact.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_exact [hKernelIdeal : Cert.KernelIdeal.Facts] [hPre_scales_exact : Cert.Pre_scales_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_exact m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_exact [hReferenceIdeal : Cert.ReferenceIdeal.Facts] [hPre_scales_exact : Cert.Pre_scales_exact.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_exact m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_exact [hKernelIdeal : Cert.KernelIdeal.Facts] [hReferenceIdeal : Cert.ReferenceIdeal.Facts] [hPre_scales_exact : Cert.Pre_scales_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_exact m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_2)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3_0)) (v4 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3_0) = v3 c
          ∧ r.2.mem ((c.tc : Thread Cert.KernelIdeal.nD Cert.KernelIdeal.τ).loc Cert.KernelIdeal.main_v3_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v78_0) = v1 c
          ∧ r.2.mem ((c.tc : Thread Cert.ReferenceIdeal.nD Cert.ReferenceIdeal.τ).loc Cert.ReferenceIdeal.main_v78_1) = v2 c
          ∧ r.2.mem ((c.tc : Thread Cert.ReferenceIdeal.nD Cert.ReferenceIdeal.τ).loc Cert.ReferenceIdeal.main_v157_0) = v3 c
          ∧ r.2.mem ((c.tc : Thread Cert.ReferenceIdeal.nD Cert.ReferenceIdeal.τ).loc Cert.ReferenceIdeal.main_v157_1) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_exact : Cert.Pre_scales_exact.Facts),
    quiescent_Kernel (hKernel := hKernel)
    ∧ quiescent_KernelIdeal (hKernelIdeal := hKernelIdeal)
    ∧ quiescent_KernelIdeal_pre_scales_exact (hKernelIdeal := hKernelIdeal) (hPre_scales_exact := hPre_scales_exact)
    ∧ quiescent_ReferenceIdeal (hReferenceIdeal := hReferenceIdeal)
    ∧ quiescent_ReferenceIdeal_pre_scales_exact (hReferenceIdeal := hReferenceIdeal) (hPre_scales_exact := hPre_scales_exact)
    ∧ preserves_Kernel_KernelIdeal
    ∧ algebraic_KernelIdeal_ReferenceIdeal_pre_scales_exact (hKernelIdeal := hKernelIdeal) (hReferenceIdeal := hReferenceIdeal) (hPre_scales_exact := hPre_scales_exact)
-- ==== Pre_scales_exact.lean ====
abbrev S12x1024x3584 : Shape := ⟨3, ![12, 1024, 3584]⟩
abbrev S12x1024x18944 : Shape := ⟨3, ![12, 1024, 18944]⟩
abbrev S2 : Shape := ⟨1, ![2]⟩
abbrev S12x16x64x3584 : Shape := ⟨4, ![12, 16, 64, 3584]⟩
abbrev S_ : Shape := ⟨0, ![]⟩
abbrev S12x16x3584 : Shape := ⟨3, ![12, 16, 3584]⟩
abbrev S12x16x64x18944 : Shape := ⟨4, ![12, 16, 64, 18944]⟩
abbrev S12x16x18944 : Shape := ⟨3, ![12, 16, 18944]⟩

class Facts : Prop where
  bitsLt_bf16_f32 : FTy.bits .bf16 < FTy.bits .f32
  shapeCasts_S12x1024x3584_S12x16x64x3584 : S12x1024x3584.ShapeCasts S12x16x64x3584
  reducesTo_S12x16x64x3584_S12x16x3584_d2 : S12x16x64x3584.ReducesTo [2] S12x16x3584
  h_S_ : 0 < S_.numel
  bcast_S_S12x16x3584 : S_.BroadcastsInDim S12x16x3584 (![] : Fin 0 → Fin S12x16x3584.rank)
  reducesTo_S12x16x3584_S_d0_1_2 : S12x16x3584.ReducesTo [0, 1, 2] S_
  shapeCasts_S12x1024x18944_S12x16x64x18944 : S12x1024x18944.ShapeCasts S12x16x64x18944
  reducesTo_S12x16x64x18944_S12x16x18944_d2 : S12x16x64x18944.ReducesTo [2] S12x16x18944
  bcast_S_S12x16x18944 : S_.BroadcastsInDim S12x16x18944 (![] : Fin 0 → Fin S12x16x18944.rank)
  reducesTo_S12x16x18944_S_d0_1_2 : S12x16x18944.ReducesTo [0, 1, 2] S_

variable [Facts]

def fn_part1 {F : FTy → Type} [FloatOps F] (main_v9 : IVec S_ 1) (main_v13 : FVec F S12x16x18944 .f32) (main_v15 : IVec S12x16x18944 1) (main_v16 : FVec F S12x16x18944 .f32) : IVec S_ 1 :=
  let main_v17 : IVec S12x16x18944 1 := cmpf .oge main_v13 main_v16
  let main_v18 : IVec S12x16x18944 1 := ori main_v15 main_v17
  let main_c_5 : IVec S_ 1 := constantI S_ 1 1#1
  let main_v19 : IVec S_ 1 := (fun x v => Host.reduce IntOp.andi x v reducesTo_S12x16x18944_S_d0_1_2 h_S_) main_v18 main_c_5
  let main_v20 : IVec S_ 1 := andi main_v9 main_v19
  main_v20

def fn {F : FTy → Type} [FloatOps F] (main_arg0 : FVec F S12x1024x3584 .bf16) (main_arg1 : FVec F S12x1024x18944 .bf16) (main_arg2 : IVec S2 32) : IVec S_ 1 :=
  let main_v0 : FVec F S12x1024x3584 .f32 := (extf .f32 · bitsLt_bf16_f32) main_arg0
  let main_v1 : FVec F S12x16x64x3584 .f32 := shapeCast S12x16x64x3584 main_v0 shapeCasts_S12x1024x3584_S12x16x64x3584
  let main_v2 : FVec F S12x16x64x3584 .f32 := Host.absf main_v1
  let main_cst : FVec F S_ .f32 := constant S_ .f32 0xFF800000#32
  let main_v3 : FVec F S12x16x3584 .f32 := (fun x v => Host.reduce FloatOps.maximumf x v reducesTo_S12x16x64x3584_S12x16x3584_d2 h_S_) main_v2 main_cst
  let main_cst_0 : FVec F S_ .f32 := constant S_ .f32 0x00000000#32
  let main_v4 : FVec F S12x16x3584 .f32 := broadcastInDim S12x16x3584 ![] bcast_S_S12x16x3584 main_cst_0
  let main_v5 : IVec S12x16x3584 1 := cmpf .oeq main_v3 main_v4
  let main_cst_1 : FVec F S_ .f32 := constant S_ .f32 0x03800000#32
  let main_v6 : FVec F S12x16x3584 .f32 := broadcastInDim S12x16x3584 ![] bcast_S_S12x16x3584 main_cst_1
  let main_v7 : IVec S12x16x3584 1 := cmpf .oge main_v3 main_v6
  let main_v8 : IVec S12x16x3584 1 := ori main_v5 main_v7
  let main_c : IVec S_ 1 := constantI S_ 1 1#1
  let main_v9 : IVec S_ 1 := (fun x v => Host.reduce IntOp.andi x v reducesTo_S12x16x3584_S_d0_1_2 h_S_) main_v8 main_c
  let main_v10 : FVec F S12x1024x18944 .f32 := (extf .f32 · bitsLt_bf16_f32) main_arg1
  let main_v11 : FVec F S12x16x64x18944 .f32 := shapeCast S12x16x64x18944 main_v10 shapeCasts_S12x1024x18944_S12x16x64x18944
  let main_v12 : FVec F S12x16x64x18944 .f32 := Host.absf main_v11
  let main_cst_2 : FVec F S_ .f32 := constant S_ .f32 0xFF800000#32
  let main_v13 : FVec F S12x16x18944 .f32 := (fun x v => Host.reduce FloatOps.maximumf x v reducesTo_S12x16x64x18944_S12x16x18944_d2 h_S_) main_v12 main_cst_2
  let main_cst_3 : FVec F S_ .f32 := constant S_ .f32 0x00000000#32
  let main_v14 : FVec F S12x16x18944 .f32 := broadcastInDim S12x16x18944 ![] bcast_S_S12x16x18944 main_cst_3
  let main_v15 : IVec S12x16x18944 1 := cmpf .oeq main_v13 main_v14
  let main_cst_4 : FVec F S_ .f32 := constant S_ .f32 0x03800000#32
  let main_v16 : FVec F S12x16x18944 .f32 := broadcastInDim S12x16x18944 ![] bcast_S_S12x16x18944 main_cst_4
  fn_part1 (F := F) main_v9 main_v13 main_v15 main_v16
-- ==== Kernel.lean ====
abbrev S12x1024x3584 : Shape := ⟨3, ![12, 1024, 3584]⟩
abbrev S12x1024x18944 : Shape := ⟨3, ![12, 1024, 18944]⟩
abbrev S2 : Shape := ⟨1, ![2]⟩
abbrev S12x8x2x3584 : Shape := ⟨4, ![12, 8, 2, 3584]⟩
abbrev S12x3584x1024 : Shape := ⟨3, ![12, 3584, 1024]⟩
abbrev S1x128x3584 : Shape := ⟨3, ![1, 128, 3584]⟩
abbrev S1x1x2x3584 : Shape := ⟨4, ![1, 1, 2, 3584]⟩
abbrev S1x3584x128 : Shape := ⟨3, ![1, 3584, 128]⟩
abbrev S1x64x256 : Shape := ⟨3, ![1, 64, 256]⟩
abbrev S64x256 : Shape := ⟨2, ![64, 256]⟩
abbrev S1 : Shape := ⟨1, ![1]⟩
abbrev S256 : Shape := ⟨1, ![256]⟩
abbrev S1x256 : Shape := ⟨2, ![1, 256]⟩
abbrev S1x1x1x256 : Shape := ⟨4, ![1, 1, 1, 256]⟩
abbrev S128x256 : Shape := ⟨2, ![128, 256]⟩
abbrev S256x128 : Shape := ⟨2, ![256, 128]⟩
abbrev S1x256x128 : Shape := ⟨3, ![1, 256, 128]⟩
abbrev S12x16x3584 : Shape := ⟨3, ![12, 16, 3584]⟩
abbrev S12x16x18944 : Shape := ⟨3, ![12, 16, 18944]⟩
abbrev S3584x18944 : Shape := ⟨2, ![3584, 18944]⟩
abbrev S1x3584x1024 : Shape := ⟨3, ![1, 3584, 1024]⟩
abbrev S1x1024x512 : Shape := ⟨3, ![1, 1024, 512]⟩
abbrev S1x16x512 : Shape := ⟨3, ![1, 16, 512]⟩
abbrev S3584x512 : Shape := ⟨2, ![3584, 512]⟩
abbrev S1024x512 : Shape := ⟨2, ![1024, 512]⟩
abbrev S1x64x512 : Shape := ⟨3, ![1, 64, 512]⟩
abbrev S64x512 : Shape := ⟨2, ![64, 512]⟩
abbrev S512 : Shape := ⟨1, ![512]⟩
abbrev S1x512 : Shape := ⟨2, ![1, 512]⟩
abbrev S1x1x512 : Shape := ⟨3, ![1, 1, 512]⟩
abbrev S512x512 : Shape := ⟨2, ![512, 512]⟩
abbrev S1x512x1024 : Shape := ⟨3, ![1, 512, 1024]⟩
abbrev S512x1024 : Shape := ⟨2, ![512, 1024]⟩

abbrev nBuf : Space → Nat
  | .hbm => 11
  | .vmem => 19
  | .smem => 2
  | _ => 0

abbrev bufTy : (tb : Table) → Fin (tcTables nBuf tb) → BufTy
  | .hbm, ⟨0, _⟩ => ⟨S12x1024x3584, .bf16⟩
  | .hbm, ⟨1, _⟩ => ⟨S12x1024x18944, .bf16⟩
  | .hbm, ⟨2, _⟩ => ⟨S2, .i32⟩
  | .hbm, ⟨3, _⟩ => ⟨S2, .i32⟩
  | .hbm, ⟨4, _⟩ => ⟨S12x1024x3584, .i8⟩
  | .hbm, ⟨5, _⟩ => ⟨S12x8x2x3584, .f32⟩
  | .hbm, ⟨6, _⟩ => ⟨S12x3584x1024, .bf16⟩
  | .hbm, ⟨7, _⟩ => ⟨S12x16x3584, .f32⟩
  | .hbm, ⟨8, _⟩ => ⟨S12x1024x18944, .i8⟩
  | .hbm, ⟨9, _⟩ => ⟨S12x16x18944, .f32⟩
  | .hbm, ⟨10, _⟩ => ⟨S3584x18944, .f32⟩
  | .local _ .vmem, ⟨0, _⟩ => ⟨S1x128x3584, .bf16⟩
  | .local _ .vmem, ⟨1, _⟩ => ⟨S1x128x3584, .bf16⟩
  | .local _ .vmem, ⟨2, _⟩ => ⟨S1x128x3584, .i8⟩
  | .local _ .vmem, ⟨3, _⟩ => ⟨S1x128x3584, .i8⟩
  | .local _ .vmem, ⟨4, _⟩ => ⟨S1x1x2x3584, .f32⟩
  | .local _ .vmem, ⟨5, _⟩ => ⟨S1x1x2x3584, .f32⟩
  | .local _ .vmem, ⟨6, _⟩ => ⟨S1x3584x128, .bf16⟩
  | .local _ .vmem, ⟨7, _⟩ => ⟨S1x3584x128, .bf16⟩
  | .local _ .vmem, ⟨8, _⟩ => ⟨S1x3584x1024, .bf16⟩
  | .local _ .vmem, ⟨9, _⟩ => ⟨S1x3584x1024, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .i8⟩
  | .local _ .vmem, ⟨13, _⟩ => ⟨S1x1024x512, .i8⟩
  | .local _ .vmem, ⟨14, _⟩ => ⟨S1x16x512, .f32⟩
  | .local _ .vmem, ⟨15, _⟩ => ⟨S1x16x512, .f32⟩
  | .local _ .vmem, ⟨16, _⟩ => ⟨S3584x512, .f32⟩
  | .local _ .vmem, ⟨17, _⟩ => ⟨S3584x512, .f32⟩
  | .local _ .vmem, ⟨18, _⟩ => ⟨S1024x512, .bf16⟩
  | .local _ .smem, ⟨0, _⟩ => ⟨S2, .i32⟩
  | .local _ .smem, ⟨1, _⟩ => ⟨S2, .i32⟩
  | _, _ => ⟨S12x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![12, 8], ![false, false]⟩

@[reducible] def k0_t1_loop : Scf.Loop 32 :=
  let c0_i32 : BitVec 32 := 0#32
  let c14_i32 : BitVec 32 := 14#32
  let v3 : BitVec 32 := Scalar.addi c0_i32 c14_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v4 : BitVec 32 := Scalar.muli arg7 c256_i32
  v4
def k0_off1 (k0_t1 : Fin k0_t1_loop.trips) : Fin 3 → Nat :=
  let c0 : Index := 0#32
  let c0_1 : Index := 0#32
  let c0_i32 : BitVec 32 := 0#32
  let c1_i32 : BitVec 32 := 1#32
  let arg7 : BitVec 32 := Scf.iv c0_i32 c1_i32 k0_t1
  let c256_i32 : BitVec 32 := 256#32
  let v4 : BitVec 32 := Scalar.muli arg7 c256_i32
  let v5 : BitVec 32 := v4
  let v6 : Index := Scalar.indexCast v5
  ![0, 0, v6.toNat]
def k0_off2 (k0_t1 : Fin k0_t1_loop.trips) : Fin 4 → Nat :=
  let c0_35 : Index := 0#32
  let c0_36 : Index := 0#32
  let c0_37 : Index := 0#32
  let c0_i32 : BitVec 32 := 0#32
  let c1_i32 : BitVec 32 := 1#32
  let arg7 : BitVec 32 := Scf.iv c0_i32 c1_i32 k0_t1
  let c256_i32 : BitVec 32 := 256#32
  let v4 : BitVec 32 := Scalar.muli arg7 c256_i32
  let v5 : BitVec 32 := v4
  let v150 : Index := Scalar.indexCast v5
  ![0, 0, 0, v150.toNat]
def k0_off3 (k0_t1 : Fin k0_t1_loop.trips) : Fin 3 → Nat :=
  let c0_38 : Index := 0#32
  let c64 : Index := 64#32
  let c0_i32 : BitVec 32 := 0#32
  let c1_i32 : BitVec 32 := 1#32
  let arg7 : BitVec 32 := Scf.iv c0_i32 c1_i32 k0_t1
  let c256_i32 : BitVec 32 := 256#32
  let v4 : BitVec 32 := Scalar.muli arg7 c256_i32
  let v5 : BitVec 32 := v4
  let v158 : Index := Scalar.indexCast v5
  ![0, 64, v158.toNat]
def k0_off4 (k0_t1 : Fin k0_t1_loop.trips) : Fin 4 → Nat :=
  let c0_88 : Index := 0#32
  let c0_89 : Index := 0#32
  let c1 : Index := 1#32
  let c0_i32 : BitVec 32 := 0#32
  let c1_i32 : BitVec 32 := 1#32
  let arg7 : BitVec 32 := Scf.iv c0_i32 c1_i32 k0_t1
  let c256_i32 : BitVec 32 := 256#32
  let v4 : BitVec 32 := Scalar.muli arg7 c256_i32
  let v5 : BitVec 32 := v4
  let v302 : Index := Scalar.indexCast v5
  ![0, 0, 1, v302.toNat]
def k0_off5 (k0_t1 : Fin k0_t1_loop.trips) : Fin 3 → Nat :=
  let c0_90 : Index := 0#32
  let c0_i32 : BitVec 32 := 0#32
  let c1_i32 : BitVec 32 := 1#32
  let arg7 : BitVec 32 := Scf.iv c0_i32 c1_i32 k0_t1
  let c256_i32 : BitVec 32 := 256#32
  let v4 : BitVec 32 := Scalar.muli arg7 c256_i32
  let v5 : BitVec 32 := v4
  let v312 : Index := Scalar.indexCast v5
  let c0_91 : Index := 0#32
  ![0, v312.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3584x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![37, 12], ![false, false]⟩

@[reducible] def k1_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c64_i32 : BitVec 32 := 64#32
  let v5 : BitVec 32 := Scalar.muli arg9 c64_i32
  v5
def k1_off1 (k1_t1 : Fin k1_t1_loop.trips) : Fin 3 → Nat :=
  let c0 : Index := 0#32
  let c0_i32 : BitVec 32 := 0#32
  let c1_i32 : BitVec 32 := 1#32
  let arg9 : BitVec 32 := Scf.iv c0_i32 c1_i32 k1_t1
  let c64_i32 : BitVec 32 := 64#32
  let v5 : BitVec 32 := Scalar.muli arg9 c64_i32
  let v6 : BitVec 32 := v5
  let v7 : Index := Scalar.indexCast v6
  let c0_6 : Index := 0#32
  ![0, v7.toNat, 0]
def k1_off2 (k1_t1 : Fin k1_t1_loop.trips) : Fin 3 → Nat :=
  let c0_40 : Index := 0#32
  let c0_i32 : BitVec 32 := 0#32
  let c1_i32 : BitVec 32 := 1#32
  let arg9 : BitVec 32 := Scf.iv c0_i32 c1_i32 k1_t1
  let v153 : Index := Scalar.indexCast arg9
  let c0_41 : Index := 0#32
  ![0, v153.toNat, 0]
def k1_off3 (k1_t1 : Fin k1_t1_loop.trips) : Fin 2 → Nat :=
  let c0_i32 : BitVec 32 := 0#32
  let c1_i32 : BitVec 32 := 1#32
  let arg9 : BitVec 32 := Scf.iv c0_i32 c1_i32 k1_t1
  let c64_i32 : BitVec 32 := 64#32
  let v5 : BitVec 32 := Scalar.muli arg9 c64_i32
  let v6 : BitVec 32 := v5
  let v161 : Index := Scalar.indexCast v6
  let c0_42 : Index := 0#32
  ![v161.toNat, 0]
@[reducible] def k1_t2_loop : Scf.Loop 32 :=
  let c0_i32_3 : BitVec 32 := 0#32
  let c7_i32 : BitVec 32 := 7#32
  let v4 : BitVec 32 := Scalar.addi c0_i32_3 c7_i32
  let c1_i32_4 : BitVec 32 := 1#32
  ⟨c0_i32_3, v4, c1_i32_4⟩
def k1_mult2 (k1_t2 : Fin k1_t2_loop.trips) : BitVec 32 :=
  let c0_i32_3 : BitVec 32 := 0#32
  let c1_i32_4 : BitVec 32 := 1#32
  let arg9 : BitVec 32 := Scf.iv c0_i32_3 c1_i32_4 k1_t2
  let c512_i32 : BitVec 32 := 512#32
  let v5 : BitVec 32 := Scalar.muli arg9 c512_i32
  v5
def k1_off4 (k1_t2 : Fin k1_t2_loop.trips) : Fin 2 → Nat :=
  let c0_i32_3 : BitVec 32 := 0#32
  let c1_i32_4 : BitVec 32 := 1#32
  let arg9 : BitVec 32 := Scf.iv c0_i32_3 c1_i32_4 k1_t2
  let c512_i32 : BitVec 32 := 512#32
  let v5 : BitVec 32 := Scalar.muli arg9 c512_i32
  let v6 : BitVec 32 := v5
  let v7 : Index := Scalar.indexCast v6
  let c0 : Index := 0#32
  ![v7.toNat, 0]
def k1_off5 (k1_t2 : Fin k1_t2_loop.trips) : Fin 3 → Nat :=
  let c0_6 : Index := 0#32
  let c0_i32_3 : BitVec 32 := 0#32
  let c1_i32_4 : BitVec 32 := 1#32
  let arg9 : BitVec 32 := Scf.iv c0_i32_3 c1_i32_4 k1_t2
  let c512_i32 : BitVec 32 := 512#32
  let v5 : BitVec 32 := Scalar.muli arg9 c512_i32
  let v6 : BitVec 32 := v5
  let v10 : Index := Scalar.indexCast v6
  let c0_7 : Index := 0#32
  ![0, v10.toNat, 0]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .smem S2 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x3584x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x16x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S3584x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S12x1024x3584 : Shape := ⟨3, ![12, 1024, 3584]⟩
abbrev S12x1024x18944 : Shape := ⟨3, ![12, 1024, 18944]⟩
abbrev S2 : Shape := ⟨1, ![2]⟩
abbrev S1 : Shape := ⟨1, ![1]⟩
abbrev S_ : Shape := ⟨0, ![]⟩
abbrev S12x16x64x3584 : Shape := ⟨4, ![12, 16, 64, 3584]⟩
abbrev S12x16x3584 : Shape := ⟨3, ![12, 16, 3584]⟩
abbrev S254 : Shape := ⟨1, ![254]⟩
abbrev S12x16x3584x1 : Shape := ⟨4, ![12, 16, 3584, 1]⟩
abbrev S1x1x1x254 : Shape := ⟨4, ![1, 1, 1, 254]⟩
abbrev S12x16x3584x254 : Shape := ⟨4, ![12, 16, 3584, 254]⟩
abbrev S12x16x1x3584 : Shape := ⟨4, ![12, 16, 1, 3584]⟩
abbrev S12x16x64x18944 : Shape := ⟨4, ![12, 16, 64, 18944]⟩
abbrev S12x16x18944 : Shape := ⟨3, ![12, 16, 18944]⟩
abbrev S12x16x18944x1 : Shape := ⟨4, ![12, 16, 18944, 1]⟩
abbrev S12x16x18944x254 : Shape := ⟨4, ![12, 16, 18944, 254]⟩
abbrev S12x16x1x18944 : Shape := ⟨4, ![12, 16, 1, 18944]⟩
abbrev S3584x18944 : Shape := ⟨2, ![3584, 18944]⟩

abbrev nBuf : Space → Nat
  | .hbm => 248
  | .vmem => 0
  | .smem => 0
  | _ => 0

abbrev hbmTy0_0 (i : Nat) : BufTy := match i % 128 with
  | 0 => ⟨S12x1024x3584, .bf16⟩
  | 1 => ⟨S12x1024x18944, .bf16⟩
  | 2 => ⟨S2, .i32⟩
  | 3 => ⟨S1, .i32⟩
  | 4 => ⟨S_, .i32⟩
  | 5 => ⟨S12x1024x3584, .f32⟩
  | 6 => ⟨S12x16x64x3584, .f32⟩
  | 7 => ⟨S12x1024x3584, .f32⟩
  | 8 => ⟨S12x16x64x3584, .f32⟩
  | 9 => ⟨S12x16x64x3584, .f32⟩
  | 10 => ⟨S_, .f32⟩
  | 11 => ⟨S12x16x3584, .f32⟩
  | 12 => ⟨S254, .f32⟩
  | 13 => ⟨S_, .f32⟩
  | 14 => ⟨S254, .f32⟩
  | 15 => ⟨S254, .f32⟩
  | 16 => ⟨S_, .f32⟩
  | 17 => ⟨S254, .f32⟩
  | 18 => ⟨S254, .f32⟩
  | 19 => ⟨S12x16x3584x1, .f32⟩
  | 20 => ⟨S1x1x1x254, .f32⟩
  | 21 => ⟨S12x16x3584x254, .f32⟩
  | 22 => ⟨S12x16x3584x254, .f32⟩
  | 23 => ⟨S12x16x3584x254, .i1⟩
  | 24 => ⟨S12x16x3584x254, .i32⟩
  | 25 => ⟨S_, .i32⟩
  | 26 => ⟨S12x16x3584, .i32⟩
  | 27 => ⟨S_, .f32⟩
  | 28 => ⟨S12x16x3584, .f32⟩
  | 29 => ⟨S12x16x3584, .i1⟩
  | 30 => ⟨S_, .i32⟩
  | 31 => ⟨S12x16x3584, .i32⟩
  | 32 => ⟨S12x16x3584, .i32⟩
  | 33 => ⟨S_, .i32⟩
  | 34 => ⟨S_, .i32⟩
  | 35 => ⟨S12x16x3584, .i32⟩
  | 36 => ⟨S12x16x3584, .i32⟩
  | 37 => ⟨S_, .f32⟩
  | 38 => ⟨S12x16x3584, .f32⟩
  | 39 => ⟨S12x16x3584, .i1⟩
  | 40 => ⟨S_, .i32⟩
  | 41 => ⟨S12x16x3584, .i32⟩
  | 42 => ⟨S12x16x3584, .i32⟩
  | 43 => ⟨S12x16x3584, .f32⟩
  | 44 => ⟨S_, .f32⟩
  | 45 => ⟨S12x16x3584, .f32⟩
  | 46 => ⟨S12x16x3584, .f32⟩
  | 47 => ⟨S_, .f32⟩
  | 48 => ⟨S12x16x3584, .f32⟩
  | 49 => ⟨S12x16x3584, .f32⟩
  | 50 => ⟨S_, .i32⟩
  | 51 => ⟨S12x16x3584, .i32⟩
  | 52 => ⟨S12x16x3584, .i32⟩
  | 53 => ⟨S12x16x3584, .f32⟩
  | 54 => ⟨S_, .f32⟩
  | 55 => ⟨S12x16x3584, .f32⟩
  | 56 => ⟨S12x16x3584, .f32⟩
  | 57 => ⟨S_, .f32⟩
  | 58 => ⟨S12x16x3584, .f32⟩
  | 59 => ⟨S12x16x3584, .f32⟩
  | 60 => ⟨S12x16x1x3584, .f32⟩
  | 61 => ⟨S12x16x64x3584, .f32⟩
  | 62 => ⟨S12x16x64x3584, .f32⟩
  | 63 => ⟨S12x1024x3584, .i32⟩
  | 64 => ⟨S12x1024x3584, .i32⟩
  | 65 => ⟨S12x1024x3584, .i32⟩
  | 66 => ⟨S_, .i32⟩
  | 67 => ⟨S12x1024x3584, .i32⟩
  | 68 => ⟨S12x1024x3584, .i32⟩
  | 69 => ⟨S12x1024x3584, .i32⟩
  | 70 => ⟨S_, .i32⟩
  | 71 => ⟨S12x1024x3584, .i32⟩
  | 72 => ⟨S12x1024x3584, .i32⟩
  | 73 => ⟨S12x1024x3584, .i32⟩
  | 74 => ⟨S12x1024x3584, .i32⟩
  | 75 => ⟨S12x1024x3584, .i32⟩
  | 76 => ⟨S_, .i32⟩
  | 77 => ⟨S12x1024x3584, .i32⟩
  | 78 => ⟨S12x1024x3584, .i32⟩
  | 79 => ⟨S12x1024x3584, .i32⟩
  | 80 => ⟨S_, .i32⟩
  | 81 => ⟨S12x1024x3584, .i32⟩
  | 82 => ⟨S12x1024x3584, .i32⟩
  | 83 => ⟨S_, .i32⟩
  | 84 => ⟨S12x1024x3584, .i32⟩
  | 85 => ⟨S12x1024x3584, .i32⟩
  | 86 => ⟨S12x1024x3584, .i32⟩
  | 87 => ⟨S_, .i32⟩
  | 88 => ⟨S12x1024x3584, .i32⟩
  | 89 => ⟨S12x1024x3584, .i32⟩
  | 90 => ⟨S_, .i32⟩
  | 91 => ⟨S12x1024x3584, .i32⟩
  | 92 => ⟨S12x1024x3584, .i32⟩
  | 93 => ⟨S12x1024x3584, .i32⟩
  | 94 => ⟨S_, .i32⟩
  | 95 => ⟨S12x1024x3584, .i32⟩
  | 96 => ⟨S12x1024x3584, .i32⟩
  | 97 => ⟨S12x1024x3584, .f32⟩
  | 98 => ⟨S_, .f32⟩
  | 99 => ⟨S12x1024x3584, .f32⟩
  | 100 => ⟨S12x1024x3584, .f32⟩
  | 101 => ⟨S12x16x64x3584, .f32⟩
  | 102 => ⟨S12x16x64x3584, .f32⟩
  | 103 => ⟨S12x16x64x3584, .f32⟩
  | 104 => ⟨S_, .i32⟩
  | 105 => ⟨S_, .i32⟩
  | 106 => ⟨S_, .f32⟩
  | 107 => ⟨S12x16x64x3584, .f32⟩
  | 108 => ⟨S12x16x64x3584, .f32⟩
  | 109 => ⟨S_, .f32⟩
  | 110 => ⟨S12x16x64x3584, .f32⟩
  | 111 => ⟨S12x16x64x3584, .f32⟩
  | 112 => ⟨S12x16x64x3584, .i32⟩
  | 113 => ⟨S12x16x64x3584, .i8⟩
  | 114 => ⟨S12x1024x3584, .i8⟩
  | 115 => ⟨S12x1024x3584, .i8⟩
  | 116 => ⟨S12x16x3584, .f32⟩
  | 117 => ⟨S1, .i32⟩
  | 118 => ⟨S_, .i32⟩
  | 119 => ⟨S12x1024x18944, .f32⟩
  | 120 => ⟨S12x16x64x18944, .f32⟩
  | 121 => ⟨S12x1024x18944, .f32⟩
  | 122 => ⟨S12x16x64x18944, .f32⟩
  | 123 => ⟨S12x16x64x18944, .f32⟩
  | 124 => ⟨S_, .f32⟩
  | 125 => ⟨S12x16x18944, .f32⟩
  | 126 => ⟨S254, .f32⟩
  | 127 => ⟨S_, .f32⟩
  | _ => ⟨S12x1024x3584, .bf16⟩

abbrev hbmTy0_1 (i : Nat) : BufTy := match i % 128 with
  | 0 => ⟨S254, .f32⟩
  | 1 => ⟨S254, .f32⟩
  | 2 => ⟨S_, .f32⟩
  | 3 => ⟨S254, .f32⟩
  | 4 => ⟨S254, .f32⟩
  | 5 => ⟨S12x16x18944x1, .f32⟩
  | 6 => ⟨S1x1x1x254, .f32⟩
  | 7 => ⟨S12x16x18944x254, .f32⟩
  | 8 => ⟨S12x16x18944x254, .f32⟩
  | 9 => ⟨S12x16x18944x254, .i1⟩
  | 10 => ⟨S12x16x18944x254, .i32⟩
  | 11 => ⟨S_, .i32⟩
  | 12 => ⟨S12x16x18944, .i32⟩
  | 13 => ⟨S_, .f32⟩
  | 14 => ⟨S12x16x18944, .f32⟩
  | 15 => ⟨S12x16x18944, .i1⟩
  | 16 => ⟨S_, .i32⟩
  | 17 => ⟨S12x16x18944, .i32⟩
  | 18 => ⟨S12x16x18944, .i32⟩
  | 19 => ⟨S_, .i32⟩
  | 20 => ⟨S_, .i32⟩
  | 21 => ⟨S12x16x18944, .i32⟩
  | 22 => ⟨S12x16x18944, .i32⟩
  | 23 => ⟨S_, .f32⟩
  | 24 => ⟨S12x16x18944, .f32⟩
  | 25 => ⟨S12x16x18944, .i1⟩
  | 26 => ⟨S_, .i32⟩
  | 27 => ⟨S12x16x18944, .i32⟩
  | 28 => ⟨S12x16x18944, .i32⟩
  | 29 => ⟨S12x16x18944, .f32⟩
  | 30 => ⟨S_, .f32⟩
  | 31 => ⟨S12x16x18944, .f32⟩
  | 32 => ⟨S12x16x18944, .f32⟩
  | 33 => ⟨S_, .f32⟩
  | 34 => ⟨S12x16x18944, .f32⟩
  | 35 => ⟨S12x16x18944, .f32⟩
  | 36 => ⟨S_, .i32⟩
  | 37 => ⟨S12x16x18944, .i32⟩
  | 38 => ⟨S12x16x18944, .i32⟩
  | 39 => ⟨S12x16x18944, .f32⟩
  | 40 => ⟨S_, .f32⟩
  | 41 => ⟨S12x16x18944, .f32⟩
  | 42 => ⟨S12x16x18944, .f32⟩
  | 43 => ⟨S_, .f32⟩
  | 44 => ⟨S12x16x18944, .f32⟩
  | 45 => ⟨S12x16x18944, .f32⟩
  | 46 => ⟨S12x16x1x18944, .f32⟩
  | 47 => ⟨S12x16x64x18944, .f32⟩
  | 48 => ⟨S12x16x64x18944, .f32⟩
  | 49 => ⟨S12x1024x18944, .i32⟩
  | 50 => ⟨S12x1024x18944, .i32⟩
  | 51 => ⟨S12x1024x18944, .i32⟩
  | 52 => ⟨S_, .i32⟩
  | 53 => ⟨S12x1024x18944, .i32⟩
  | 54 => ⟨S12x1024x18944, .i32⟩
  | 55 => ⟨S12x1024x18944, .i32⟩
  | 56 => ⟨S_, .i32⟩
  | 57 => ⟨S12x1024x18944, .i32⟩
  | 58 => ⟨S12x1024x18944, .i32⟩
  | 59 => ⟨S12x1024x18944, .i32⟩
  | 60 => ⟨S12x1024x18944, .i32⟩
  | 61 => ⟨S12x1024x18944, .i32⟩
  | 62 => ⟨S_, .i32⟩
  | 63 => ⟨S12x1024x18944, .i32⟩
  | 64 => ⟨S12x1024x18944, .i32⟩
  | 65 => ⟨S12x1024x18944, .i32⟩
  | 66 => ⟨S_, .i32⟩
  | 67 => ⟨S12x1024x18944, .i32⟩
  | 68 => ⟨S12x1024x18944, .i32⟩
  | 69 => ⟨S_, .i32⟩
  | 70 => ⟨S12x1024x18944, .i32⟩
  | 71 => ⟨S12x1024x18944, .i32⟩
  | 72 => ⟨S12x1024x18944, .i32⟩
  | 73 => ⟨S_, .i32⟩
  | 74 => ⟨S12x1024x18944, .i32⟩
  | 75 => ⟨S12x1024x18944, .i32⟩
  | 76 => ⟨S_, .i32⟩
  | 77 => ⟨S12x1024x18944, .i32⟩
  | 78 => ⟨S12x1024x18944, .i32⟩
  | 79 => ⟨S12x1024x18944, .i32⟩
  | 80 => ⟨S_, .i32⟩
  | 81 => ⟨S12x1024x18944, .i32⟩
  | 82 => ⟨S12x1024x18944, .i32⟩
  | 83 => ⟨S12x1024x18944, .f32⟩
  | 84 => ⟨S_, .f32⟩
  | 85 => ⟨S12x1024x18944, .f32⟩
  | 86 => ⟨S12x1024x18944, .f32⟩
  | 87 => ⟨S12x16x64x18944, .f32⟩
  | 88 => ⟨S12x16x64x18944, .f32⟩
  | 89 => ⟨S12x16x64x18944, .f32⟩
  | 90 => ⟨S_, .i32⟩
  | 91 => ⟨S_, .i32⟩
  | 92 => ⟨S_, .f32⟩
  | 93 => ⟨S12x16x64x18944, .f32⟩
  | 94 => ⟨S12x16x64x18944, .f32⟩
  | 95 => ⟨S_, .f32⟩
  | 96 => ⟨S12x16x64x18944, .f32⟩
  | 97 => ⟨S12x16x64x18944, .f32⟩
  | 98 => ⟨S12x16x64x18944, .i32⟩
  | 99 => ⟨S12x16x64x18944, .i8⟩
  | 100 => ⟨S12x1024x18944, .i8⟩
  | 101 => ⟨S12x1024x18944, .i8⟩
  | 102 => ⟨S12x16x18944, .f32⟩
  | 103 => ⟨S12x1024x3584, .i32⟩
  | 104 => ⟨S12x1024x3584, .bf16⟩
  | 105 => ⟨S12x16x64x3584, .bf16⟩
  | 106 => ⟨S12x16x3584, .bf16⟩
  | 107 => ⟨S12x16x1x3584, .bf16⟩
  | 108 => ⟨S12x16x64x3584, .bf16⟩
  | 109 => ⟨S12x16x64x3584, .bf16⟩
  | 110 => ⟨S12x1024x3584, .bf16⟩
  | 111 => ⟨S12x1024x18944, .i32⟩
  | 112 => ⟨S12x1024x18944, .bf16⟩
  | 113 => ⟨S12x16x64x18944, .bf16⟩
  | 114 => ⟨S12x16x18944, .bf16⟩
  | 115 => ⟨S12x16x1x18944, .bf16⟩
  | 116 => ⟨S12x16x64x18944, .bf16⟩
  | 117 => ⟨S12x16x64x18944, .bf16⟩
  | 118 => ⟨S12x1024x18944, .bf16⟩
  | 119 => ⟨S3584x18944, .f32⟩
  | _ => ⟨S12x1024x3584, .bf16⟩

abbrev hbmTy (i : Nat) : BufTy := match i / 128 with
  | 0 => hbmTy0_0 i
  | 1 => hbmTy0_1 i
  | _ => ⟨S12x1024x3584, .bf16⟩

abbrev bufTy : (tb : Table) → Fin (tcTables nBuf tb) → BufTy
  | .hbm, ⟨i, _⟩ => hbmTy i
  | _, _ => ⟨S12x1024x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_call1_v0 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_call2_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_15 : Ref sig .tc := ⟨.hbm, 80, rfl⟩
abbrev main_v56 : Ref sig .tc := ⟨.hbm, 81, rfl⟩
abbrev main_v57 : Ref sig .tc := ⟨.hbm, 82, rfl⟩
abbrev main_c_16 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_17 : Ref sig .tc := ⟨.hbm, 87, rfl⟩
abbrev main_v61 : Ref sig .tc := ⟨.hbm, 88, rfl⟩
abbrev main_v62 : Ref sig .tc := ⟨.hbm, 89, rfl⟩
abbrev main_c_18 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_19 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_20 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_21 : Ref sig .tc := ⟨.hbm, 104, rfl⟩
abbrev main_c_22 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78_0 : Ref sig .tc := ⟨.hbm, 115, rfl⟩
abbrev main_v78_1 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_23 : Ref sig .tc := ⟨.hbm, 124, rfl⟩
abbrev main_v86 : Ref sig .tc := ⟨.hbm, 125, rfl⟩
abbrev main_v87 : Ref sig .tc := ⟨.hbm, 126, rfl⟩
abbrev main_cst_24 : Ref sig .tc := ⟨.hbm, 127, rfl⟩
abbrev main_v88 : Ref sig .tc := ⟨.hbm, 128, rfl⟩
abbrev main_v89 : Ref sig .tc := ⟨.hbm, 129, rfl⟩
abbrev main_cst_25 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_26 : Ref sig .tc := ⟨.hbm, 139, rfl⟩
abbrev main_v98 : Ref sig .tc := ⟨.hbm, 140, rfl⟩
abbrev main_cst_27 : Ref sig .tc := ⟨.hbm, 141, rfl⟩
abbrev main_v99 : Ref sig .tc := ⟨.hbm, 142, rfl⟩
abbrev main_v100 : Ref sig .tc := ⟨.hbm, 143, rfl⟩
abbrev main_c_28 : Ref sig .tc := ⟨.hbm, 144, rfl⟩
abbrev main_v101 : Ref sig .tc := ⟨.hbm, 145, rfl⟩
abbrev main_v102 : Ref sig .tc := ⟨.hbm, 146, rfl⟩
abbrev main_c_29 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_cst_30 : Ref sig .tc := ⟨.hbm, 151, rfl⟩
abbrev main_v104 : Ref sig .tc := ⟨.hbm, 152, rfl⟩
abbrev main_v105 : Ref sig .tc := ⟨.hbm, 153, rfl⟩
abbrev main_c_31 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_32 : Ref sig .tc := ⟨.hbm, 158, rfl⟩
abbrev main_v109 : Ref sig .tc := ⟨.hbm, 159, rfl⟩
abbrev main_v110 : Ref sig .tc := ⟨.hbm, 160, rfl⟩
abbrev main_cst_33 : Ref sig .tc := ⟨.hbm, 161, rfl⟩
abbrev main_call5_v0 : Ref sig .tc := ⟨.hbm, 162, rfl⟩
abbrev main_v111 : Ref sig .tc := ⟨.hbm, 163, rfl⟩
abbrev main_c_34 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_35 : Ref sig .tc := ⟨.hbm, 168, rfl⟩
abbrev main_v115 : Ref sig .tc := ⟨.hbm, 169, rfl⟩
abbrev main_v116 : Ref sig .tc := ⟨.hbm, 170, rfl⟩
abbrev main_cst_36 : Ref sig .tc := ⟨.hbm, 171, rfl⟩
abbrev main_call6_v0 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_c_37 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_c_38 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_c_39 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_c_40 : Ref sig .tc := ⟨.hbm, 194, rfl⟩
abbrev main_v135 : Ref sig .tc := ⟨.hbm, 195, rfl⟩
abbrev main_v136 : Ref sig .tc := ⟨.hbm, 196, rfl⟩
abbrev main_c_41 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_c_42 : Ref sig .tc := ⟨.hbm, 201, rfl⟩
abbrev main_v140 : Ref sig .tc := ⟨.hbm, 202, rfl⟩
abbrev main_v141 : Ref sig .tc := ⟨.hbm, 203, rfl⟩
abbrev main_c_43 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_c_44 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_cst_45 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_c_46 : Ref sig .tc := ⟨.hbm, 218, rfl⟩
abbrev main_c_47 : Ref sig .tc := ⟨.hbm, 219, rfl⟩
abbrev main_call7_v0 : Ref sig .tc := ⟨.hbm, 220, rfl⟩
abbrev main_call7_v1 : Ref sig .tc := ⟨.hbm, 221, rfl⟩
abbrev main_call7_v2 : Ref sig .tc := ⟨.hbm, 222, rfl⟩
abbrev main_call7_v3 : Ref sig .tc := ⟨.hbm, 223, rfl⟩
abbrev main_call7_v4 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157_0 : Ref sig .tc := ⟨.hbm, 229, rfl⟩
abbrev main_v157_1 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩

abbrev nD : Nat := 1
abbrev τ : Topo := Topo.v7x

variable {F : FTy → Type} [FloatOps F]
-- ==== Proof.KernelFrame.lean ====
/- The frame of the kernel: the program runs to its end without fault and leaves its arguments as they were. It is the
   generated frame with one lemma more (`scratch1_junk`): the second call's quantising loop fills its scratch buffer, so
   what the product reads there does not depend on what the buffer held before. The generated run of that call, which
   leaves the scratch's earlier contents in the product's operand, does not close without it. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_x_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S1x128x3584 .i8 := (Memref.whole cc0_stg2_0 : Memref sig .tc .vmem S1x128x3584 .i8).view
/-- One staging buffer of output window 3, through which its contents are stated (`View.read_writes_of_cover`: the
    choice does not matter). -/
abbrev VO0_3 : View sig .tc .vmem S1x1x2x3584 .f32 := (Memref.whole cc0_stg3_0 : Memref sig .tc .vmem S1x1x2x3584 .f32).view
/-- One staging buffer of output window 4, through which its contents are stated (`View.read_writes_of_cover`: the
    choice does not matter). -/
abbrev VO0_4 : View sig .tc .vmem S1x3584x128 .bf16 := (Memref.whole cc0_stg4_0 : Memref sig .tc .vmem S1x3584x128 .bf16).view
/-- Each window's current staging memref at point `t`, spelled as the pipeline passes it (`bodyAt0`), and its wholeness. -/
abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x3584 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2x3584 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3584x128 .bf16 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) :
    Σ' (L2 : List (View.Piece (Elt F) S1x128x3584 .i8)), Σ' (L3 : List (View.Piece (Elt F) S1x1x2x3584 .f32)), { L4 : List (View.Piece (Elt F) S1x3584x128 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_x_quant i arg2 harg2 arg3 harg3 arg4 harg4 arg5 harg5 arg6 harg6) K } := by
  refine ⟨?_, ?_, ?_, fun E K => ?run⟩
  case run =>
    simp only [cc0_x_quant_eq_skeleton]; unfold cc0_x_quant_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

/-- The run's pieces for output 2 tile its block (28 stores of `S1x64x256`, checked by the kernel's evaluation: Lib/Ring.lean `Piece.tiledL`, linear in the pieces, through a loop's `@[irreducible]` trip theorem too), so they cover it. -/
theorem cover0_A_2 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) (y : S1x128x3584.Idx) :
    ∃ pc ∈ (kernelRun0_A c i arg2 harg2 arg3 harg3 arg4 harg4 arg5 harg5 arg6 harg6 x0 x1).1, y ∈ pc.1.set :=
  View.cover_of_tiledL (kernelRun0_A c i arg2 harg2 arg3 harg3 arg4 harg4 arg5 harg5 arg6 harg6 x0 x1).1 S1x64x256.size (by sl_kernel_rfl) y

/-- What the run leaves in output 2's staging buffer: its pieces read back over junk. -/
def out0_A_2 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) : Vec F S1x128x3584 .i8 :=
  VO0_2.read (Elt F) (VO0_2.writes (Elt F) VO0_2.junk (kernelRun0_A c i arg2 harg2 arg3 harg3 arg4 harg4 arg5 harg5 arg6 harg6 x0 x1).1)

/-- The run's pieces for output 3 tile its block (28 stores of `S1x1x1x256`, checked by the kernel's evaluation: Lib/Ring.lean `Piece.tiledL`, linear in the pieces, through a loop's `@[irreducible]` trip theorem too), so they cover it. -/
theorem cover0_A_3 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) (y : S1x1x2x3584.Idx) :
    ∃ pc ∈ (kernelRun0_A c i arg2 harg2 arg3 harg3 arg4 harg4 arg5 harg5 arg6 harg6 x0 x1).2.1, y ∈ pc.1.set :=
  View.cover_of_tiledL (kernelRun0_A c i arg2 harg2 arg3 harg3 arg4 harg4 arg5 harg5 arg6 harg6 x0 x1).2.1 S1x1x1x256.size (by sl_kernel_rfl) y

/-- What the run leaves in output 3's staging buffer: its pieces read back over junk. -/
def out0_A_3 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) : Vec F S1x1x2x3584 .f32 :=
  VO0_3.read (Elt F) (VO0_3.writes (Elt F) VO0_3.junk (kernelRun0_A c i arg2 harg2 arg3 harg3 arg4 harg4 arg5 harg5 arg6 harg6 x0 x1).2.1)

/-- The run's pieces for output 4 tile its block (14 stores of `S1x256x128`, checked by the kernel's evaluation: Lib/Ring.lean `Piece.tiledL`, linear in the pieces, through a loop's `@[irreducible]` trip theorem too), so they cover it. -/
theorem cover0_A_4 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) (y : S1x3584x128.Idx) :
    ∃ pc ∈ (kernelRun0_A c i arg2 harg2 arg3 harg3 arg4 harg4 arg5 harg5 arg6 harg6 x0 x1).2.2.1, y ∈ pc.1.set :=
  View.cover_of_tiledL (kernelRun0_A c i arg2 harg2 arg3 harg3 arg4 harg4 arg5 harg5 arg6 harg6 x0 x1).2.2.1 S1x256x128.size (by sl_kernel_rfl) y

/-- What the run leaves in output 4's staging buffer: its pieces read back over junk. -/
def out0_A_4 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) : Vec F S1x3584x128 .bf16 :=
  VO0_4.read (Elt F) (VO0_4.writes (Elt F) VO0_4.junk (kernelRun0_A c i arg2 harg2 arg3 harg3 arg4 harg4 arg5 harg5 arg6 harg6 x0 x1).2.2.1)

/-! ## What the outputs hold after each point -/

/-- What the outputs' staging buffers hold after the body at point `t` (as a tuple, in window order): the run's contents at
    the point's memrefs and input blocks. -/
def outsAt0 (c : Dev nD) (t : Fin cfg0.N) : Vec F S1x128x3584 .i8 × Vec F S1x1x2x3584 .f32 × Vec F S1x3584x128 .bf16 :=
  (out0_A_2 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
    | ⟨4, _⟩ => (outsAt0 V c t).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]
theorem after0_4 (c : Dev nD) (t : Fin cfg0.N) : (dat0 V c).after 4 t = (outsAt0 V c t).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_2 out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t)).2.2.2 Set.univ _)
  isplitl [H0]; · iexact H0
  isplitl [H1]; · iexact H1
  isplitl [H2]; · iexists _; iexact H2
  isplitl [H3]; · iexists _; iexact H3
  isplitl [H4]; · iexists _; iexact H4
  iintro ⟨H0, H1, ⟨%e2, H2⟩, ⟨%e3, H3⟩, ⟨%e4, H4⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _)
  unfold owns; iexists _; isplitr
  swap; · iexact H4
  ipureintro; exact View.read_writes_of_cover _ _ _ _ _ (cover0_A_4 c _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_hbfp_dw` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 12) — by arithmetic of the point. -/
theorem hcond1_0 : ∀ t : Fin cfg1.N, cond1_0 (grid1.coords t) ↔ t.val % 12 = 0 :=
  (fun t => by
    have ht : t.val < 444 := Nat.lt_of_lt_of_eq t.isLt N_1
    have e0 : (grid1.coords t 0).val = t.val / 12 % 37 := Pipeline.Grid.coords_val t 0 (by decide) rfl
    have e1 : (grid1.coords t 1).val = t.val / 1 % 12 := Pipeline.Grid.coords_val t 1 (by decide) rfl
    simp only [cond1_0, e0, e1]
    word_cmp
   : ∀ t : Fin grid1.N, cond1_0 (grid1.coords t) ↔ t.val % 12 = 0)

/-! ## The kernel body on any staging memrefs: a subtype the run finds -/

/-- One staging buffer of output window 3, through which its contents are stated (`View.read_writes_of_cover`: the
    choice does not matter). -/
abbrev VO1_3 : View sig .tc .vmem S1x1024x512 .i8 := (Memref.whole cc1_stg3_0 : Memref sig .tc .vmem S1x1024x512 .i8).view
/-- One staging buffer of output window 4, through which its contents are stated (`View.read_writes_of_cover`: the
    choice does not matter). -/
abbrev VO1_4 : View sig .tc .vmem S1x16x512 .f32 := (Memref.whole cc1_stg4_0 : Memref sig .tc .vmem S1x16x512 .f32).view
/-- One staging buffer of output window 5, through which its contents are stated (`View.read_writes_of_cover`: the
    choice does not matter). -/
abbrev VO1_5 : View sig .tc .vmem S3584x512 .f32 := (Memref.whole cc1_stg5_0 : Memref sig .tc .vmem S3584x512 .f32).view
/-- Each window's current staging memref at point `t`, spelled as the pipeline passes it (`bodyAt1`), and its wholeness. -/
abbrev ms1_0 (t : Fin cfg1.N) : Memref sig .tc .smem S2 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x3584x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3584x512 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S1024x512 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ f : Buf (Elt F) ((c : Thread nD τ).loc cc0_stg0_0), ((c : Thread nD τ).loc cc0_stg0_0) ↦{fullShare} f)) ∗ (∃ r, prngReg c r)) := by
  unfold Pipeline.ΦA; rw [scopedRest1_eq]; simp only [scM1_0, owns_whole]; try rfl

/-- Writes that cover a whole buffer leave the same contents whatever was there before. -/
theorem writes_eq_junk_of_cover {Val : EltTy → Type} [∀ e, Nonempty (Val e)] {κ : Kind} {sp : Space} {s : Shape} {e : EltTy}
    {mr : Memref sig κ sp s e} (hw : mr.IsWhole) (f : mr.view.ty.Contents Val) (L : List (View.Piece Val s e))
    (hc : ∀ y, ∃ p ∈ L, y ∈ p.1.set) : mr.view.writes Val f L = mr.view.writes Val mr.view.junk L := by
  obtain ⟨b, rfl, rfl, rfl, h⟩ := hw; cases h
  funext y
  exact View.read_writes_apply_eq (View.whole b) f (View.whole b) (View.whole b).junk y L (hc y)

/-- The quantising loop's stores fill the scratch buffer, so what it holds afterwards does not depend on what it held. -/
theorem scratch1_junk (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (arg0 arg1 : BitVec 32)
    (X_arg2 : BufTy.Contents (Elt F) arg2.view.ty) (X_arg4 : BufTy.Contents (Elt F) arg4.view.ty) (f : BufTy.Contents (Elt F) arg8.view.ty) :
    arg8.view.writes (Elt F) f (pb_k1_t1 (F := F) Variants.none c none i arg2 harg2 arg3 harg3 arg4 harg4 arg5 harg5 arg6 harg6 arg7 harg7 arg8 harg8 arg0 arg1 X_arg2 X_arg4 (Scf.trips k1_t1_loop.lb k1_t1_loop.ub k1_t1_loop.st)).2.2
      = arg8.view.writes (Elt F) arg8.view.junk (pb_k1_t1 (F := F) Variants.none c none i arg2 harg2 arg3 harg3 arg4 harg4 arg5 harg5 arg6 harg6 arg7 harg7 arg8 harg8 arg0 arg1 X_arg2 X_arg4 (Scf.trips k1_t1_loop.lb k1_t1_loop.ub k1_t1_loop.st)).2.2 :=
  writes_eq_junk_of_cover harg8 f _ fun y => View.cover_of_tiledL (pb_k1_t1 (F := F) Variants.none c none i arg2 harg2 arg3 harg3 arg4 harg4 arg5 harg5 arg6 harg6 arg7 harg7 arg8 harg8 arg0 arg1 X_arg2 X_arg4 (Scf.trips k1_t1_loop.lb k1_t1_loop.ub k1_t1_loop.st)).2.2 S64x512.size (by sl_kernel_rfl) y

-- (the run's proof term is large: the definition's epilogue — `abstractNestedProofs` — walks it past the default budget)
set_option maxHeartbeats 1000000 in
/-- What the body's stores leave in each output's staging memref, as pieces (last first) IN CASE A (`scf.if` 0 taken: points 0, 12, … 432: 37 of 444), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) :
    Σ' (L3 : List (View.Piece (Elt F) S1x1024x512 .i8)), Σ' (L4 : List (View.Piece (Elt F) S1x16x512 .f32)), { L5 : List (View.Piece (Elt F) S3584x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc1_hbfp_dw i arg2 harg2 arg3 harg3 arg4 harg4 arg5 harg5 arg6 harg6 arg7 harg7 arg8 harg8) K } := by
  refine ⟨?_, ?_, ?_, fun E K => ?run⟩
  case run =>
    simp only [cc1_hbfp_dw_eq_skeleton]; unfold cc1_hbfp_dw_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    sl_step
    rw [scratch1_junk (f := fs0)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _, _; isplitr; swap; · iexact HS0
    ipureintro; rfl

/-- Case A's pieces for output 3 tile its block (16 stores of `S1x64x512`, checked by the kernel's evaluation: Lib/Ring.lean `Piece.tiledL`, linear in the pieces, through a loop's `@[irreducible]` trip theorem too), so they cover it. -/
theorem cover1_A_3 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) (y : S1x1024x512.Idx) :
    ∃ pc ∈ (kernelRun1_A c i arg2 harg2 arg3 harg3 arg4 harg4 arg5 harg5 arg6 harg6 arg7 harg7 arg8 harg8 hc0 x0 x1 x2).1, y ∈ pc.1.set :=
  View.cover_of_tiledL (kernelRun1_A c i arg2 harg2 arg3 harg3 arg4 harg4 arg5 harg5 arg6 harg6 arg7 harg7 arg8 harg8 hc0 x0 x1 x2).1 S1x64x512.size (by sl_kernel_rfl) y

/-- What case A leaves in output 3's staging buffer: its pieces read back over junk. -/
def out1_A_3 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) : Vec F S1x1024x512 .i8 :=
  VO1_3.read (Elt F) (VO1_3.writes (Elt F) VO1_3.junk (kernelRun1_A c i arg2 harg2 arg3 harg3 arg4 harg4 arg5 harg5 arg6 harg6 arg7 harg7 arg8 harg8 hc0 x0 x1 x2).1)

/-- Case A's pieces for output 4 tile its block (16 stores of `S1x1x512`, checked by the kernel's evaluation: Lib/Ring.lean `Piece.tiledL`, linear in the pieces, through a loop's `@[irreducible]` trip theorem too), so they cover it. -/
theorem cover1_A_4 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) (y : S1x16x512.Idx) :
    ∃ pc ∈ (kernelRun1_A c i arg2 harg2 arg3 harg3 arg4 harg4 arg5 harg5 arg6 harg6 arg7 harg7 arg8 harg8 hc0 x0 x1 x2).2.1, y ∈ pc.1.set :=
  View.cover_of_tiledL (kernelRun1_A c i arg2 harg2 arg3 harg3 arg4 harg4 arg5 harg5 arg6 harg6 arg7 harg7 arg8 harg8 hc0 x0 x1 x2).2.1 S1x1x512.size (by sl_kernel_rfl) y

/-- What case A leaves in output 4's staging buffer: its pieces read back over junk. -/
def out1_A_4 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) : Vec F S1x16x512 .f32 :=
  VO1_4.read (Elt F) (VO1_4.writes (Elt F) VO1_4.junk (kernelRun1_A c i arg2 harg2 arg3 harg3 arg4 harg4 arg5 harg5 arg6 harg6 arg7 harg7 arg8 harg8 hc0 x0 x1 x2).2.1)

/-- Case A's pieces for output 5 are of SEVERAL sizes (8 stores of `S3584x512`, `S512x512`): cut into blocks of `![512, 512]` they tile its block (checked by the kernel's evaluation: Lib/Ring.lean `Piece.tiledBy`), so they cover it. -/
theorem cover1_A_5 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) (y : S3584x512.Idx) :
    ∃ pc ∈ (kernelRun1_A c i arg2 harg2 arg3 harg3 arg4 harg4 arg5 harg5 arg6 harg6 arg7 harg7 arg8 harg8 hc0 x0 x1 x2).2.2.1, y ∈ pc.1.set :=
  View.cover_of_tiledBy (kernelRun1_A c i arg2 harg2 arg3 harg3 arg4 harg4 arg5 harg5 arg6 harg6 arg7 harg7 arg8 harg8 hc0 x0 x1 x2).2.2.1 ![512, 512] (by sl_kernel_rfl) y

/-- What case A leaves in output 5's staging buffer: its pieces read back over junk. -/
def out1_A_5 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) : Vec F S3584x512 .f32 :=
  VO1_5.read (Elt F) (VO1_5.writes (Elt F) VO1_5.junk (kernelRun1_A c i arg2 harg2 arg3 harg3 arg4 harg4 arg5 harg5 arg6 harg6 arg7 harg7 arg8 harg8 hc0 x0 x1 x2).2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 443: 407 of 444), WITH the
    proof that on whole staging memrefs — the inputs' at their contents, the outputs it reads before covering (5) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) :
    Σ' (L3 : List (View.Piece (Elt F) S1x1024x512 .i8)), Σ' (L4 : List (View.Piece (Elt F) S1x16x512 .f32)), { L5 : List (View.Piece (Elt F) S3584x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xo5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc1_hbfp_dw i arg2 harg2 arg3 harg3 arg4 harg4 arg5 harg5 arg6 harg6 arg7 harg7 arg8 harg8) K } := by
  refine ⟨?_, ?_, ?_, fun E K => ?run⟩
  case run =>
    simp only [cc1_hbfp_dw_eq_skeleton]; unfold cc1_hbfp_dw_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg7.eq_unread hf5
    sl_exec (disch := first | sl_exact hc0)
    sl_step
    rw [scratch1_junk (f := fs0)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _, _; isplitr; swap; · iexact HS0
    ipureintro; rfl

/-- Case B's pieces for output 3 tile its block (16 stores of `S1x64x512`, checked by the kernel's evaluation: Lib/Ring.lean `Piece.tiledL`, linear in the pieces, through a loop's `@[irreducible]` trip theorem too), so they cover it. -/
theorem cover1_B_3 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) (y : S1x1024x512.Idx) :
    ∃ pc ∈ (kernelRun1_B c i arg2 harg2 arg3 harg3 arg4 harg4 arg5 harg5 arg6 harg6 arg7 harg7 arg8 harg8 hc0 x0 x1 x2 xo5).1, y ∈ pc.1.set :=
  View.cover_of_tiledL (kernelRun1_B c i arg2 harg2 arg3 harg3 arg4 harg4 arg5 harg5 arg6 harg6 arg7 harg7 arg8 harg8 hc0 x0 x1 x2 xo5).1 S1x64x512.size (by sl_kernel_rfl) y

/-- What case B leaves in output 3's staging buffer: its pieces read back over junk. -/
def out1_B_3 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) : Vec F S1x1024x512 .i8 :=
  VO1_3.read (Elt F) (VO1_3.writes (Elt F) VO1_3.junk (kernelRun1_B c i arg2 harg2 arg3 harg3 arg4 harg4 arg5 harg5 arg6 harg6 arg7 harg7 arg8 harg8 hc0 x0 x1 x2 xo5).1)

/-- Case B's pieces for output 4 tile its block (16 stores of `S1x1x512`, checked by the kernel's evaluation: Lib/Ring.lean `Piece.tiledL`, linear in the pieces, through a loop's `@[irreducible]` trip theorem too), so they cover it. -/
theorem cover1_B_4 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) (y : S1x16x512.Idx) :
    ∃ pc ∈ (kernelRun1_B c i arg2 harg2 arg3 harg3 arg4 harg4 arg5 harg5 arg6 harg6 arg7 harg7 arg8 harg8 hc0 x0 x1 x2 xo5).2.1, y ∈ pc.1.set :=
  View.cover_of_tiledL (kernelRun1_B c i arg2 harg2 arg3 harg3 arg4 harg4 arg5 harg5 arg6 harg6 arg7 harg7 arg8 harg8 hc0 x0 x1 x2 xo5).2.1 S1x1x512.size (by sl_kernel_rfl) y

/-- What case B leaves in output 4's staging buffer: its pieces read back over junk. -/
def out1_B_4 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) : Vec F S1x16x512 .f32 :=
  VO1_4.read (Elt F) (VO1_4.writes (Elt F) VO1_4.junk (kernelRun1_B c i arg2 harg2 arg3 harg3 arg4 harg4 arg5 harg5 arg6 harg6 arg7 harg7 arg8 harg8 hc0 x0 x1 x2 xo5).2.1)

/-- Case B's pieces for output 5 tile its block (7 stores of `S512x512`, checked by the kernel's evaluation: Lib/Ring.lean `Piece.tiledL`, linear in the pieces, through a loop's `@[irreducible]` trip theorem too), so they cover it. -/
theorem cover1_B_5 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) (y : S3584x512.Idx) :
    ∃ pc ∈ (kernelRun1_B c i arg2 harg2 arg3 harg3 arg4 harg4 arg5 harg5 arg6 harg6 arg7 harg7 arg8 harg8 hc0 x0 x1 x2 xo5).2.2.1, y ∈ pc.1.set :=
  View.cover_of_tiledL (kernelRun1_B c i arg2 harg2 arg3 harg3 arg4 harg4 arg5 harg5 arg6 harg6 arg7 harg7 arg8 harg8 hc0 x0 x1 x2 xo5).2.2.1 S512x512.size (by sl_kernel_rfl) y

/-- What case B leaves in output 5's staging buffer: its pieces read back over junk. -/
def out1_B_5 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) : Vec F S3584x512 .f32 :=
  VO1_5.read (Elt F) (VO1_5.writes (Elt F) VO1_5.junk (kernelRun1_B c i arg2 harg2 arg3 harg3 arg4 harg4 arg5 harg5 arg6 harg6 arg7 harg7 arg8 harg8 hc0 x0 x1 x2 xo5).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x1024x512 .i8 × Vec F S1x16x512 .f32 × Vec F S3584x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 12 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2)

/-- `outsAt1` at a point of case A: that case's contents. -/
theorem outsAt1_A (c : Dev nD) (t : Fin cfg1.N) (h0 : t.val % 12 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 12 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B output 5's current staging buffer holds what the body left at the point before: the point is
    not the first, the buffer was not written back between (`flush1_5`), the window is live and uncut (Lib/Pipeline/Frame.lean
    `Dat.before_out_kept`). -/
theorem before1_5_B (c : Dev nD) (t : Fin cfg1.N) (h0 : ¬t.val % 12 = 0) (d) :
    (dat1 V c).before 5 t d = (outsAt1 V c (t.val - 1) (Nat.lt_of_le_of_lt (Nat.sub_le _ _) t.isLt)).2.2 := by
  have hN : t.val < 444 := lt_of_lt_of_eq t.isLt (show cfg1.N = 444 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks (`before1_W`); the closed forms say which case the point is in (`by_cases`), an output the case reads before covering holds what the point before left (`before1_W_κ`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  have hN : t.val < 444 := lt_of_lt_of_eq t.isLt (show cfg1.N = 444 from N_1)
  by_cases h0 : t.val % 12 = 0
  · rw [outsAt1_A V c t h0]
    unfold out1_A_3 out1_A_4 out1_A_5; (try dsimp only)
    iintro ⟨⟨⟨HR0, HR1, HR2, HR3, HR4, HR5, HR6, HR7, HS0, HR9⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1_0 t).mpr h0) (iblk1 V c 0 t) (iblk1 V c 1 t) (iblk1 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, ⟨%e3, H3⟩, ⟨%e4, H4⟩, ⟨%e5, H5⟩, HS0⟩
    isplitl [HR0 HR1 HR2 HR3 HR4 HR5 HR6 HR7 HS0 HR9 Hg]
    · isplitl [HR0 HR1 HR2 HR3 HR4 HR5 HR6 HR7 HS0 HR9]
      · isplitl [HR0]
        · iexact HR0
        isplitl [HR1]
        · iexact HR1
        isplitl [HR2]
        · iexact HR2
        isplitl [HR3]
        · iexact HR3
        isplitl [HR4]
        · iexact HR4
        isplitl [HR5]
        · iexact HR5
        isplitl [HR6]
        · iexact HR6
        isplitl [HR7]
        · iexact HR7
        isplitl [HS0]
        · iexact HS0
        iexact HR9
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _ _ _ _)
    isplitl [H4]
    · unfold owns; iexists _; isplitr
      swap; · iexact H4
      ipureintro; exact View.read_writes_of_cover _ _ _ _ _ (cover1_A_4 c _ _ _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _ _ _)
  · rw [outsAt1_B V c t h0]
    simp only [before1_5_B V c t h0]
    unfold out1_B_3 out1_B_4 out1_B_5; (try dsimp only)
    iintro ⟨⟨⟨HR0, HR1, HR2, HR3, HR4, HR5, HR6, HR7, HS0, HR9⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (fun h => h0 ((hcond1_0 t).mp h)) (iblk1 V c 0 t) (iblk1 V c 1 t) (iblk1 V c 2 t) _).2.2.2 Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [HS0]; · iexact HS0
    iintro ⟨H0, H1, H2, ⟨%e3, H3⟩, ⟨%e4, H4⟩, ⟨%e5, H5⟩, HS0⟩
    isplitl [HR0 HR1 HR2 HR3 HR4 HR5 HR6 HR7 HS0 HR9 Hg]
    · isplitl [HR0 HR1 HR2 HR3 HR4 HR5 HR6 HR7 HS0 HR9]
      · isplitl [HR0]
        · iexact HR0
        isplitl [HR1]
        · iexact HR1
        isplitl [HR2]
        · iexact HR2
        isplitl [HR3]
        · iexact HR3
        isplitl [HR4]
        · iexact HR4
        isplitl [HR5]
        · iexact HR5
        isplitl [HR6]
        · iexact HR6
        isplitl [HR7]
        · iexact HR7
        isplitl [HS0]
        · iexact HS0
        iexact HR9
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _ _ _ _)
    isplitl [H4]
    · unfold owns; iexists _; isplitr
      swap; · iexact H4
      ipureintro; exact View.read_writes_of_cover _ _ _ _ _ (cover1_B_4 c _ _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.Kernel.Gen

end
-- ==== Proof.KernelIdealFrame.lean ====
/- The frame of the ideal kernel: the program runs to its end without fault and leaves its arguments as they were. It is the
   generated frame with one lemma more (`scratch1_junk`): the second call's quantising loop fills its scratch buffer, so
   what the product reads there does not depend on what the buffer held before. The generated run of that call, which
   leaves the scratch's earlier contents in the product's operand, does not close without it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_x_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S1x128x3584 .i8 := (Memref.whole cc0_stg2_0 : Memref sig .tc .vmem S1x128x3584 .i8).view
/-- One staging buffer of output window 3, through which its contents are stated (`View.read_writes_of_cover`: the
    choice does not matter). -/
abbrev VO0_3 : View sig .tc .vmem S1x1x2x3584 .f32 := (Memref.whole cc0_stg3_0 : Memref sig .tc .vmem S1x1x2x3584 .f32).view
/-- One staging buffer of output window 4, through which its contents are stated (`View.read_writes_of_cover`: the
    choice does not matter). -/
abbrev VO0_4 : View sig .tc .vmem S1x3584x128 .bf16 := (Memref.whole cc0_stg4_0 : Memref sig .tc .vmem S1x3584x128 .bf16).view
/-- Each window's current staging memref at point `t`, spelled as the pipeline passes it (`bodyAt0`), and its wholeness. -/
abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x3584 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2x3584 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3584x128 .bf16 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) :
    Σ' (L2 : List (View.Piece (Elt F) S1x128x3584 .i8)), Σ' (L3 : List (View.Piece (Elt F) S1x1x2x3584 .f32)), { L4 : List (View.Piece (Elt F) S1x3584x128 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_x_quant i arg2 harg2 arg3 harg3 arg4 harg4 arg5 harg5 arg6 harg6) K } := by
  refine ⟨?_, ?_, ?_, fun E K => ?run⟩
  case run =>
    simp only [cc0_x_quant_eq_skeleton]; unfold cc0_x_quant_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

/-- The run's pieces for output 2 tile its block (28 stores of `S1x64x256`, checked by the kernel's evaluation: Lib/Ring.lean `Piece.tiledL`, linear in the pieces, through a loop's `@[irreducible]` trip theorem too), so they cover it. -/
theorem cover0_A_2 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) (y : S1x128x3584.Idx) :
    ∃ pc ∈ (kernelRun0_A c i arg2 harg2 arg3 harg3 arg4 harg4 arg5 harg5 arg6 harg6 x0 x1).1, y ∈ pc.1.set :=
  View.cover_of_tiledL (kernelRun0_A c i arg2 harg2 arg3 harg3 arg4 harg4 arg5 harg5 arg6 harg6 x0 x1).1 S1x64x256.size (by sl_kernel_rfl) y

/-- What the run leaves in output 2's staging buffer: its pieces read back over junk. -/
def out0_A_2 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) : Vec F S1x128x3584 .i8 :=
  VO0_2.read (Elt F) (VO0_2.writes (Elt F) VO0_2.junk (kernelRun0_A c i arg2 harg2 arg3 harg3 arg4 harg4 arg5 harg5 arg6 harg6 x0 x1).1)

/-- The run's pieces for output 3 tile its block (28 stores of `S1x1x1x256`, checked by the kernel's evaluation: Lib/Ring.lean `Piece.tiledL`, linear in the pieces, through a loop's `@[irreducible]` trip theorem too), so they cover it. -/
theorem cover0_A_3 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) (y : S1x1x2x3584.Idx) :
    ∃ pc ∈ (kernelRun0_A c i arg2 harg2 arg3 harg3 arg4 harg4 arg5 harg5 arg6 harg6 x0 x1).2.1, y ∈ pc.1.set :=
  View.cover_of_tiledL (kernelRun0_A c i arg2 harg2 arg3 harg3 arg4 harg4 arg5 harg5 arg6 harg6 x0 x1).2.1 S1x1x1x256.size (by sl_kernel_rfl) y

/-- What the run leaves in output 3's staging buffer: its pieces read back over junk. -/
def out0_A_3 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) : Vec F S1x1x2x3584 .f32 :=
  VO0_3.read (Elt F) (VO0_3.writes (Elt F) VO0_3.junk (kernelRun0_A c i arg2 harg2 arg3 harg3 arg4 harg4 arg5 harg5 arg6 harg6 x0 x1).2.1)

/-- The run's pieces for output 4 tile its block (14 stores of `S1x256x128`, checked by the kernel's evaluation: Lib/Ring.lean `Piece.tiledL`, linear in the pieces, through a loop's `@[irreducible]` trip theorem too), so they cover it. -/
theorem cover0_A_4 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) (y : S1x3584x128.Idx) :
    ∃ pc ∈ (kernelRun0_A c i arg2 harg2 arg3 harg3 arg4 harg4 arg5 harg5 arg6 harg6 x0 x1).2.2.1, y ∈ pc.1.set :=
  View.cover_of_tiledL (kernelRun0_A c i arg2 harg2 arg3 harg3 arg4 harg4 arg5 harg5 arg6 harg6 x0 x1).2.2.1 S1x256x128.size (by sl_kernel_rfl) y

/-- What the run leaves in output 4's staging buffer: its pieces read back over junk. -/
def out0_A_4 (c : Dev nD) (i : grid0.Coords) (arg2 : Memref sig .tc .smem S2 .i32) (harg2 : arg2.IsWhole) (arg3 : Memref sig .tc .vmem S1x128x3584 .bf16) (harg3 : arg3.IsWhole) (arg4 : Memref sig .tc .vmem S1x128x3584 .i8) (harg4 : arg4.IsWhole) (arg5 : Memref sig .tc .vmem S1x1x2x3584 .f32) (harg5 : arg5.IsWhole) (arg6 : Memref sig .tc .vmem S1x3584x128 .bf16) (harg6 : arg6.IsWhole)
    (x0 : Vec F S2 .i32) (x1 : Vec F S1x128x3584 .bf16) : Vec F S1x3584x128 .bf16 :=
  VO0_4.read (Elt F) (VO0_4.writes (Elt F) VO0_4.junk (kernelRun0_A c i arg2 harg2 arg3 harg3 arg4 harg4 arg5 harg5 arg6 harg6 x0 x1).2.2.1)

/-! ## What the outputs hold after each point -/

/-- What the outputs' staging buffers hold after the body at point `t` (as a tuple, in window order): the run's contents at
    the point's memrefs and input blocks. -/
def outsAt0 (c : Dev nD) (t : Fin cfg0.N) : Vec F S1x128x3584 .i8 × Vec F S1x1x2x3584 .f32 × Vec F S1x3584x128 .bf16 :=
  (out0_A_2 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
    | ⟨4, _⟩ => (outsAt0 V c t).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]
theorem after0_4 (c : Dev nD) (t : Fin cfg0.N) : (dat0 V c).after 4 t = (outsAt0 V c t).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_2 out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t)).2.2.2 Set.univ _)
  isplitl [H0]; · iexact H0
  isplitl [H1]; · iexact H1
  isplitl [H2]; · iexists _; iexact H2
  isplitl [H3]; · iexists _; iexact H3
  isplitl [H4]; · iexists _; iexact H4
  iintro ⟨H0, H1, ⟨%e2, H2⟩, ⟨%e3, H3⟩, ⟨%e4, H4⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _)
  unfold owns; iexists _; isplitr
  swap; · iexact H4
  ipureintro; exact View.read_writes_of_cover _ _ _ _ _ (cover0_A_4 c _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_hbfp_dw` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 12) — by arithmetic of the point. -/
theorem hcond1_0 : ∀ t : Fin cfg1.N, cond1_0 (grid1.coords t) ↔ t.val % 12 = 0 :=
  (fun t => by
    have ht : t.val < 444 := Nat.lt_of_lt_of_eq t.isLt N_1
    have e0 : (grid1.coords t 0).val = t.val / 12 % 37 := Pipeline.Grid.coords_val t 0 (by decide) rfl
    have e1 : (grid1.coords t 1).val = t.val / 1 % 12 := Pipeline.Grid.coords_val t 1 (by decide) rfl
    simp only [cond1_0, e0, e1]
    word_cmp
   : ∀ t : Fin grid1.N, cond1_0 (grid1.coords t) ↔ t.val % 12 = 0)

/-! ## The kernel body on any staging memrefs: a subtype the run finds -/

/-- One staging buffer of output window 3, through which its contents are stated (`View.read_writes_of_cover`: the
    choice does not matter). -/
abbrev VO1_3 : View sig .tc .vmem S1x1024x512 .i8 := (Memref.whole cc1_stg3_0 : Memref sig .tc .vmem S1x1024x512 .i8).view
/-- One staging buffer of output window 4, through which its contents are stated (`View.read_writes_of_cover`: the
    choice does not matter). -/
abbrev VO1_4 : View sig .tc .vmem S1x16x512 .f32 := (Memref.whole cc1_stg4_0 : Memref sig .tc .vmem S1x16x512 .f32).view
/-- One staging buffer of output window 5, through which its contents are stated (`View.read_writes_of_cover`: the
    choice does not matter). -/
abbrev VO1_5 : View sig .tc .vmem S3584x512 .f32 := (Memref.whole cc1_stg5_0 : Memref sig .tc .vmem S3584x512 .f32).view
/-- Each window's current staging memref at point `t`, spelled as the pipeline passes it (`bodyAt1`), and its wholeness. -/
abbrev ms1_0 (t : Fin cfg1.N) : Memref sig .tc .smem S2 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x3584x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3584x512 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S1024x512 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ f : Buf (Elt F) ((c : Thread nD τ).loc cc0_stg0_0), ((c : Thread nD τ).loc cc0_stg0_0) ↦{fullShare} f)) ∗ (∃ r, prngReg c r)) := by
  unfold Pipeline.ΦA; rw [scopedRest1_eq]; simp only [scM1_0, owns_whole]; try rfl

/-- Writes that cover a whole buffer leave the same contents whatever was there before. -/
theorem writes_eq_junk_of_cover {Val : EltTy → Type} [∀ e, Nonempty (Val e)] {κ : Kind} {sp : Space} {s : Shape} {e : EltTy}
    {mr : Memref sig κ sp s e} (hw : mr.IsWhole) (f : mr.view.ty.Contents Val) (L : List (View.Piece Val s e))
    (hc : ∀ y, ∃ p ∈ L, y ∈ p.1.set) : mr.view.writes Val f L = mr.view.writes Val mr.view.junk L := by
  obtain ⟨b, rfl, rfl, rfl, h⟩ := hw; cases h
  funext y
  exact View.read_writes_apply_eq (View.whole b) f (View.whole b) (View.whole b).junk y L (hc y)

/-- The quantising loop's stores fill the scratch buffer, so what it holds afterwards does not depend on what it held. -/
theorem scratch1_junk (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (arg0 arg1 : BitVec 32)
    (X_arg2 : BufTy.Contents (Elt F) arg2.view.ty) (X_arg4 : BufTy.Contents (Elt F) arg4.view.ty) (f : BufTy.Contents (Elt F) arg8.view.ty) :
    arg8.view.writes (Elt F) f (pb_k1_t1 (F := F) Variants.none c none i arg2 harg2 arg3 harg3 arg4 harg4 arg5 harg5 arg6 harg6 arg7 harg7 arg8 harg8 arg0 arg1 X_arg2 X_arg4 (Scf.trips k1_t1_loop.lb k1_t1_loop.ub k1_t1_loop.st)).2.2
      = arg8.view.writes (Elt F) arg8.view.junk (pb_k1_t1 (F := F) Variants.none c none i arg2 harg2 arg3 harg3 arg4 harg4 arg5 harg5 arg6 harg6 arg7 harg7 arg8 harg8 arg0 arg1 X_arg2 X_arg4 (Scf.trips k1_t1_loop.lb k1_t1_loop.ub k1_t1_loop.st)).2.2 :=
  writes_eq_junk_of_cover harg8 f _ fun y => View.cover_of_tiledL (pb_k1_t1 (F := F) Variants.none c none i arg2 harg2 arg3 harg3 arg4 harg4 arg5 harg5 arg6 harg6 arg7 harg7 arg8 harg8 arg0 arg1 X_arg2 X_arg4 (Scf.trips k1_t1_loop.lb k1_t1_loop.ub k1_t1_loop.st)).2.2 S64x512.size (by sl_kernel_rfl) y

-- (the run's proof term is large: the definition's epilogue — `abstractNestedProofs` — walks it past the default budget)
set_option maxHeartbeats 1000000 in
/-- What the body's stores leave in each output's staging memref, as pieces (last first) IN CASE A (`scf.if` 0 taken: points 0, 12, … 432: 37 of 444), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) :
    Σ' (L3 : List (View.Piece (Elt F) S1x1024x512 .i8)), Σ' (L4 : List (View.Piece (Elt F) S1x16x512 .f32)), { L5 : List (View.Piece (Elt F) S3584x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc1_hbfp_dw i arg2 harg2 arg3 harg3 arg4 harg4 arg5 harg5 arg6 harg6 arg7 harg7 arg8 harg8) K } := by
  refine ⟨?_, ?_, ?_, fun E K => ?run⟩
  case run =>
    simp only [cc1_hbfp_dw_eq_skeleton]; unfold cc1_hbfp_dw_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    sl_step
    rw [scratch1_junk (f := fs0)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _, _; isplitr; swap; · iexact HS0
    ipureintro; rfl

/-- Case A's pieces for output 3 tile its block (16 stores of `S1x64x512`, checked by the kernel's evaluation: Lib/Ring.lean `Piece.tiledL`, linear in the pieces, through a loop's `@[irreducible]` trip theorem too), so they cover it. -/
theorem cover1_A_3 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) (y : S1x1024x512.Idx) :
    ∃ pc ∈ (kernelRun1_A c i arg2 harg2 arg3 harg3 arg4 harg4 arg5 harg5 arg6 harg6 arg7 harg7 arg8 harg8 hc0 x0 x1 x2).1, y ∈ pc.1.set :=
  View.cover_of_tiledL (kernelRun1_A c i arg2 harg2 arg3 harg3 arg4 harg4 arg5 harg5 arg6 harg6 arg7 harg7 arg8 harg8 hc0 x0 x1 x2).1 S1x64x512.size (by sl_kernel_rfl) y

/-- What case A leaves in output 3's staging buffer: its pieces read back over junk. -/
def out1_A_3 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) : Vec F S1x1024x512 .i8 :=
  VO1_3.read (Elt F) (VO1_3.writes (Elt F) VO1_3.junk (kernelRun1_A c i arg2 harg2 arg3 harg3 arg4 harg4 arg5 harg5 arg6 harg6 arg7 harg7 arg8 harg8 hc0 x0 x1 x2).1)

/-- Case A's pieces for output 4 tile its block (16 stores of `S1x1x512`, checked by the kernel's evaluation: Lib/Ring.lean `Piece.tiledL`, linear in the pieces, through a loop's `@[irreducible]` trip theorem too), so they cover it. -/
theorem cover1_A_4 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) (y : S1x16x512.Idx) :
    ∃ pc ∈ (kernelRun1_A c i arg2 harg2 arg3 harg3 arg4 harg4 arg5 harg5 arg6 harg6 arg7 harg7 arg8 harg8 hc0 x0 x1 x2).2.1, y ∈ pc.1.set :=
  View.cover_of_tiledL (kernelRun1_A c i arg2 harg2 arg3 harg3 arg4 harg4 arg5 harg5 arg6 harg6 arg7 harg7 arg8 harg8 hc0 x0 x1 x2).2.1 S1x1x512.size (by sl_kernel_rfl) y

/-- What case A leaves in output 4's staging buffer: its pieces read back over junk. -/
def out1_A_4 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) : Vec F S1x16x512 .f32 :=
  VO1_4.read (Elt F) (VO1_4.writes (Elt F) VO1_4.junk (kernelRun1_A c i arg2 harg2 arg3 harg3 arg4 harg4 arg5 harg5 arg6 harg6 arg7 harg7 arg8 harg8 hc0 x0 x1 x2).2.1)

/-- Case A's pieces for output 5 are of SEVERAL sizes (8 stores of `S3584x512`, `S512x512`): cut into blocks of `![512, 512]` they tile its block (checked by the kernel's evaluation: Lib/Ring.lean `Piece.tiledBy`), so they cover it. -/
theorem cover1_A_5 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) (y : S3584x512.Idx) :
    ∃ pc ∈ (kernelRun1_A c i arg2 harg2 arg3 harg3 arg4 harg4 arg5 harg5 arg6 harg6 arg7 harg7 arg8 harg8 hc0 x0 x1 x2).2.2.1, y ∈ pc.1.set :=
  View.cover_of_tiledBy (kernelRun1_A c i arg2 harg2 arg3 harg3 arg4 harg4 arg5 harg5 arg6 harg6 arg7 harg7 arg8 harg8 hc0 x0 x1 x2).2.2.1 ![512, 512] (by sl_kernel_rfl) y

/-- What case A leaves in output 5's staging buffer: its pieces read back over junk. -/
def out1_A_5 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : cond1_0 i)
    (x0 : Vec F S2 .i32) (x1 : Vec F S1x3584x1024 .bf16) (x2 : Vec F S1x1024x512 .bf16) : Vec F S3584x512 .f32 :=
  VO1_5.read (Elt F) (VO1_5.writes (Elt F) VO1_5.junk (kernelRun1_A c i arg2 harg2 arg3 harg3 arg4 harg4 arg5 harg5 arg6 harg6 arg7 harg7 arg8 harg8 hc0 x0 x1 x2).2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 443: 407 of 444), WITH the
    proof that on whole staging memrefs — the inputs' at their contents, the outputs it reads before covering (5) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) :
    Σ' (L3 : List (View.Piece (Elt F) S1x1024x512 .i8)), Σ' (L4 : List (View.Piece (Elt F) S1x16x512 .f32)), { L5 : List (View.Piece (Elt F) S3584x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xo5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc1_hbfp_dw i arg2 harg2 arg3 harg3 arg4 harg4 arg5 harg5 arg6 harg6 arg7 harg7 arg8 harg8) K } := by
  refine ⟨?_, ?_, ?_, fun E K => ?run⟩
  case run =>
    simp only [cc1_hbfp_dw_eq_skeleton]; unfold cc1_hbfp_dw_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg7.eq_unread hf5
    sl_exec (disch := first | sl_exact hc0)
    sl_step
    rw [scratch1_junk (f := fs0)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _, _; isplitr; swap; · iexact HS0
    ipureintro; rfl

/-- Case B's pieces for output 3 tile its block (16 stores of `S1x64x512`, checked by the kernel's evaluation: Lib/Ring.lean `Piece.tiledL`, linear in the pieces, through a loop's `@[irreducible]` trip theorem too), so they cover it. -/
theorem cover1_B_3 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) (y : S1x1024x512.Idx) :
    ∃ pc ∈ (kernelRun1_B c i arg2 harg2 arg3 harg3 arg4 harg4 arg5 harg5 arg6 harg6 arg7 harg7 arg8 harg8 hc0 x0 x1 x2 xo5).1, y ∈ pc.1.set :=
  View.cover_of_tiledL (kernelRun1_B c i arg2 harg2 arg3 harg3 arg4 harg4 arg5 harg5 arg6 harg6 arg7 harg7 arg8 harg8 hc0 x0 x1 x2 xo5).1 S1x64x512.size (by sl_kernel_rfl) y

/-- What case B leaves in output 3's staging buffer: its pieces read back over junk. -/
def out1_B_3 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) : Vec F S1x1024x512 .i8 :=
  VO1_3.read (Elt F) (VO1_3.writes (Elt F) VO1_3.junk (kernelRun1_B c i arg2 harg2 arg3 harg3 arg4 harg4 arg5 harg5 arg6 harg6 arg7 harg7 arg8 harg8 hc0 x0 x1 x2 xo5).1)

/-- Case B's pieces for output 4 tile its block (16 stores of `S1x1x512`, checked by the kernel's evaluation: Lib/Ring.lean `Piece.tiledL`, linear in the pieces, through a loop's `@[irreducible]` trip theorem too), so they cover it. -/
theorem cover1_B_4 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) (y : S1x16x512.Idx) :
    ∃ pc ∈ (kernelRun1_B c i arg2 harg2 arg3 harg3 arg4 harg4 arg5 harg5 arg6 harg6 arg7 harg7 arg8 harg8 hc0 x0 x1 x2 xo5).2.1, y ∈ pc.1.set :=
  View.cover_of_tiledL (kernelRun1_B c i arg2 harg2 arg3 harg3 arg4 harg4 arg5 harg5 arg6 harg6 arg7 harg7 arg8 harg8 hc0 x0 x1 x2 xo5).2.1 S1x1x512.size (by sl_kernel_rfl) y

/-- What case B leaves in output 4's staging buffer: its pieces read back over junk. -/
def out1_B_4 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) : Vec F S1x16x512 .f32 :=
  VO1_4.read (Elt F) (VO1_4.writes (Elt F) VO1_4.junk (kernelRun1_B c i arg2 harg2 arg3 harg3 arg4 harg4 arg5 harg5 arg6 harg6 arg7 harg7 arg8 harg8 hc0 x0 x1 x2 xo5).2.1)

/-- Case B's pieces for output 5 tile its block (7 stores of `S512x512`, checked by the kernel's evaluation: Lib/Ring.lean `Piece.tiledL`, linear in the pieces, through a loop's `@[irreducible]` trip theorem too), so they cover it. -/
theorem cover1_B_5 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) (y : S3584x512.Idx) :
    ∃ pc ∈ (kernelRun1_B c i arg2 harg2 arg3 harg3 arg4 harg4 arg5 harg5 arg6 harg6 arg7 harg7 arg8 harg8 hc0 x0 x1 x2 xo5).2.2.1, y ∈ pc.1.set :=
  View.cover_of_tiledL (kernelRun1_B c i arg2 harg2 arg3 harg3 arg4 harg4 arg5 harg5 arg6 harg6 arg7 harg7 arg8 harg8 hc0 x0 x1 x2 xo5).2.2.1 S512x512.size (by sl_kernel_rfl) y

/-- What case B leaves in output 5's staging buffer: its pieces read back over junk. -/
def out1_B_5 (c : Dev nD) (i : grid1.Coords) (arg2 : Memref sig .tc .smem S2 .i32) (harg2 : arg2.IsWhole) (arg3 : Memref sig .tc .vmem S1x3584x1024 .bf16) (harg3 : arg3.IsWhole) (arg4 : Memref sig .tc .vmem S1x1024x512 .bf16) (harg4 : arg4.IsWhole) (arg5 : Memref sig .tc .vmem S1x1024x512 .i8) (harg5 : arg5.IsWhole) (arg6 : Memref sig .tc .vmem S1x16x512 .f32) (harg6 : arg6.IsWhole) (arg7 : Memref sig .tc .vmem S3584x512 .f32) (harg7 : arg7.IsWhole) (arg8 : Memref sig .tc .vmem S1024x512 .bf16) (harg8 : arg8.IsWhole) (hc0 : ¬cond1_0 i)
    (x0 : Vec F S2 .i32) (x1 : Vec F S1x3584x1024 .bf16) (x2 : Vec F S1x1024x512 .bf16) (xo5 : Vec F S3584x512 .f32) : Vec F S3584x512 .f32 :=
  VO1_5.read (Elt F) (VO1_5.writes (Elt F) VO1_5.junk (kernelRun1_B c i arg2 harg2 arg3 harg3 arg4 harg4 arg5 harg5 arg6 harg6 arg7 harg7 arg8 harg8 hc0 x0 x1 x2 xo5).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x1024x512 .i8 × Vec F S1x16x512 .f32 × Vec F S3584x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 12 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2)

/-- `outsAt1` at a point of case A: that case's contents. -/
theorem outsAt1_A (c : Dev nD) (t : Fin cfg1.N) (h0 : t.val % 12 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 12 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B output 5's current staging buffer holds what the body left at the point before: the point is
    not the first, the buffer was not written back between (`flush1_5`), the window is live and uncut (Lib/Pipeline/Frame.lean
    `Dat.before_out_kept`). -/
theorem before1_5_B (c : Dev nD) (t : Fin cfg1.N) (h0 : ¬t.val % 12 = 0) (d) :
    (dat1 V c).before 5 t d = (outsAt1 V c (t.val - 1) (Nat.lt_of_le_of_lt (Nat.sub_le _ _) t.isLt)).2.2 := by
  have hN : t.val < 444 := lt_of_lt_of_eq t.isLt (show cfg1.N = 444 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks (`before1_W`); the closed forms say which case the point is in (`by_cases`), an output the case reads before covering holds what the point before left (`before1_W_κ`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  have hN : t.val < 444 := lt_of_lt_of_eq t.isLt (show cfg1.N = 444 from N_1)
  by_cases h0 : t.val % 12 = 0
  · rw [outsAt1_A V c t h0]
    unfold out1_A_3 out1_A_4 out1_A_5; (try dsimp only)
    iintro ⟨⟨⟨HR0, HR1, HR2, HR3, HR4, HR5, HR6, HR7, HS0, HR9⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1_0 t).mpr h0) (iblk1 V c 0 t) (iblk1 V c 1 t) (iblk1 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, ⟨%e3, H3⟩, ⟨%e4, H4⟩, ⟨%e5, H5⟩, HS0⟩
    isplitl [HR0 HR1 HR2 HR3 HR4 HR5 HR6 HR7 HS0 HR9 Hg]
    · isplitl [HR0 HR1 HR2 HR3 HR4 HR5 HR6 HR7 HS0 HR9]
      · isplitl [HR0]
        · iexact HR0
        isplitl [HR1]
        · iexact HR1
        isplitl [HR2]
        · iexact HR2
        isplitl [HR3]
        · iexact HR3
        isplitl [HR4]
        · iexact HR4
        isplitl [HR5]
        · iexact HR5
        isplitl [HR6]
        · iexact HR6
        isplitl [HR7]
        · iexact HR7
        isplitl [HS0]
        · iexact HS0
        iexact HR9
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _ _ _ _)
    isplitl [H4]
    · unfold owns; iexists _; isplitr
      swap; · iexact H4
      ipureintro; exact View.read_writes_of_cover _ _ _ _ _ (cover1_A_4 c _ _ _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _ _ _)
  · rw [outsAt1_B V c t h0]
    simp only [before1_5_B V c t h0]
    unfold out1_B_3 out1_B_4 out1_B_5; (try dsimp only)
    iintro ⟨⟨⟨HR0, HR1, HR2, HR3, HR4, HR5, HR6, HR7, HS0, HR9⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (fun h => h0 ((hcond1_0 t).mp h)) (iblk1 V c 0 t) (iblk1 V c 1 t) (iblk1 V c 2 t) _).2.2.2 Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [HS0]; · iexact HS0
    iintro ⟨H0, H1, H2, ⟨%e3, H3⟩, ⟨%e4, H4⟩, ⟨%e5, H5⟩, HS0⟩
    isplitl [HR0 HR1 HR2 HR3 HR4 HR5 HR6 HR7 HS0 HR9 Hg]
    · isplitl [HR0 HR1 HR2 HR3 HR4 HR5 HR6 HR7 HS0 HR9]
      · isplitl [HR0]
        · iexact HR0
        isplitl [HR1]
        · iexact HR1
        isplitl [HR2]
        · iexact HR2
        isplitl [HR3]
        · iexact HR3
        isplitl [HR4]
        · iexact HR4
        isplitl [HR5]
        · iexact HR5
        isplitl [HR6]
        · iexact HR6
        isplitl [HR7]
        · iexact HR7
        isplitl [HS0]
        · iexact HS0
        iexact HR9
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _ _ _ _)
    isplitl [H4]
    · unfold owns; iexists _; isplitr
      swap; · iexact H4
      ipureintro; exact View.read_writes_of_cover _ _ _ _ _ (cover1_B_4 c _ _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.KernelIdeal.Gen

end
-- ==== Proof.Scalar.lean ====
/- What the kernel computes of one number: the biased exponent of a block's greatest magnitude, the block's scale and
   its inverse, the hash of a word and the integer a value is rounded to. Each definition is the kernel's operations on
   one element, at any reading of the floats. -/
module

public import proofs.«01_k».proof.Proof.Gen.KernelIdeal.Skeleton

@[expose] public section

noncomputable section

namespace Cert.Bfp

open Idealize.ShloMosaic

variable {F : FTy → Type} [FloatOps F]

/-- The power of two whose biased exponent is the word `e`. -/
def pow2 (e : BitVec 32) : F .f32 := FloatOps.ofBits .f32 (IntOp.shli .vector e 23#32)

/-- One step of the search for the biased exponent: take the bit if the power of two it leads to is at most `a`. -/
def expStep (a : F .f32) (e bit : BitVec 32) : BitVec 32 :=
  Scalar.select (FloatOps.cmpf .oge a (pow2 (IntOp.addi e bit))) (IntOp.addi e bit) e

/-- The greatest biased exponent whose power of two is at most `a`, bit by bit. -/
def biasedExp (a : F .f32) : BitVec 32 :=
  expStep a (expStep a (expStep a (expStep a (expStep a (expStep a (expStep a (expStep a 0#32 128#32) 64#32) 32#32) 16#32) 8#32) 4#32) 2#32) 1#32

/-- The exponent of `a` as `frexp` counts it, from its biased exponent. -/
def expOf (a : F .f32) : BitVec 32 :=
  Scalar.select (IntOp.ori (IntOp.cmpi .eq (biasedExp a) 0#32) (IntOp.cmpi .eq (biasedExp a) 255#32)) 0#32
    (IntOp.subi (biasedExp a) 126#32)

/-- The scale of a block whose greatest magnitude is `a`. -/
def scale (a : F .f32) : F .f32 :=
  Scalar.select (FloatOps.cmpf .oeq a (Scalar.ofBits .f32 0x00000000#32)) (Scalar.ofBits .f32 0x3F800000#32)
    (pow2 (IntOp.maxsi (IntOp.addi (IntOp.subi (expOf a) 7#32) 127#32) 0#32))

/-- The factor that a block whose greatest magnitude is `a` is multiplied by. -/
def mult (a : F .f32) : F .f32 :=
  Scalar.select (FloatOps.cmpf .oeq a (Scalar.ofBits .f32 0x00000000#32)) (Scalar.ofBits .f32 0x3F800000#32)
    (pow2 (IntOp.minsi (IntOp.addi (IntOp.subi 7#32 (expOf a)) 127#32) 255#32))

/-- The hash of a seeded position, its low eight bits dropped. -/
def hash (w : BitVec 32) : BitVec 32 :=
  let h1 := IntOp.xori w (IntOp.shrui .vector w 16#32)
  let h2 := IntOp.muli h1 2146121005#32
  let h3 := IntOp.xori h2 (IntOp.shrui .vector h2 15#32)
  let h4 := IntOp.muli h3 2221713035#32
  let h5 := IntOp.xori h4 (IntOp.shrui .vector h4 16#32)
  IntOp.shrui .vector h5 8#32

/-- The integer (as a float) that the value `v` becomes under the factor `m` and the seeded position `w`. -/
def quant (v m : F .f32) (w : BitVec 32) : F .f32 :=
  FloatOps.minimumf (Scalar.ofBits .f32 0x42FE0000#32)
    (FloatOps.maximumf (Scalar.ofBits .f32 0xC2FE0000#32)
      (FloatOps.floor (FloatOps.addf (FloatOps.mulf v m)
        (FloatOps.mulf (FloatOps.sitofp .f32 (hash w)) (Scalar.ofBits .f32 0x33800000#32)))))

/-- The code of a rounded value: its 32-bit integer cut to 8 bits. -/
def code (q : F .f32) : BitVec 8 := (FloatOps.fptosi 32 q : BitVec 32).setWidth 8

end Cert.Bfp

end
-- ==== Proof.Spec.lean ====
/- The quantiser on a whole array, over the extended reals: an array read at natural coordinates, the greatest magnitude
   of 64 consecutive rows of one column, and the rounded value, the scale and their product at one element. The kernel's
   blocks and its arrays are both described by these. -/
module

public import proofs.«01_k».proof.Proof.Scalar
public import Idealize.ShloMosaic.Lib.Pointwise

@[expose] public section

noncomputable section

namespace Cert.Bfp

open Idealize.ShloMosaic

/-- A three-axis array read at natural coordinates (0 outside). -/
def at3 {n0 n1 n2 : ℕ} (X : (⟨3, ![n0, n1, n2]⟩ : Shape).Idx → EReal) (b s c : ℕ) : EReal :=
  if h : b < n0 ∧ s < n1 ∧ c < n2 then X (ix3 ⟨b, h.1⟩ ⟨s, h.2.1⟩ ⟨c, h.2.2⟩) else 0

theorem at3_ix3 {n0 n1 n2 : ℕ} (X : (⟨3, ![n0, n1, n2]⟩ : Shape).Idx → EReal) (b : Fin n0) (s : Fin n1) (c : Fin n2) :
    at3 X b s c = X (ix3 b s c) := dif_pos ⟨b.2, s.2, c.2⟩

/-- The greatest magnitude of a column of 64 numbers. -/
def colMax (v : Fin 64 → EReal) : EReal := Finset.univ.fold max (⊥ : EReal) fun i => max (v i) (-(v i))

/-- The greatest magnitude of rows `64 q … 64 q + 63` of column `c` of slab `b`. -/
def amax {n0 n1 n2 : ℕ} (X : (⟨3, ![n0, n1, n2]⟩ : Shape).Idx → EReal) (b q c : ℕ) : EReal :=
  colMax fun i => at3 X b (64 * q + i) c

/-- The rounded value of element `(b, s, c)` under the seeded position `w`. -/
def qAt {n0 n1 n2 : ℕ} (X : (⟨3, ![n0, n1, n2]⟩ : Shape).Idx → EReal) (w : BitVec 32) (b s c : ℕ) : EReal :=
  quant (F := Ideal) (at3 X b s c) (mult (F := Ideal) (amax X b (s / 64) c)) w

/-- The scale of block `q` of column `c` of slab `b`. -/
def sAt {n0 n1 n2 : ℕ} (X : (⟨3, ![n0, n1, n2]⟩ : Shape).Idx → EReal) (b q c : ℕ) : EReal :=
  scale (F := Ideal) (amax X b q c)

/-- The dequantised element. -/
def pAt {n0 n1 n2 : ℕ} (X : (⟨3, ![n0, n1, n2]⟩ : Shape).Idx → EReal) (w : BitVec 32) (b s c : ℕ) : EReal :=
  qAt X w b s c * sAt X b (s / 64) c

/-- The seeded flat position of row `r`, column `l` of an array of `C` columns. -/
def seeded (s : BitVec 32) (C r l : ℕ) : BitVec 32 := IntOp.xori (BitVec.ofNat 32 (r * C + l)) s

/-- The word the reduction starts from reads as minus infinity. -/
theorem ofBits_neg_inf : Ideal.ofBits .f32 4286578688#32 = (⊥ : EReal) := by
  simp [Ideal.ofBits, Ideal.ieee]

/-- Arrays that agree at the rows of a block agree in its greatest magnitude. -/
theorem amax_congr {n0 n1 n2 m0 m1 m2 : ℕ} (X : (⟨3, ![n0, n1, n2]⟩ : Shape).Idx → EReal)
    (Y : (⟨3, ![m0, m1, m2]⟩ : Shape).Idx → EReal) (b q c b' q' c' : ℕ)
    (h : ∀ i : Fin 64, at3 X b (64 * q + i) c = at3 Y b' (64 * q' + i) c') : amax X b q c = amax Y b' q' c' := by
  unfold amax; exact congrArg colMax (funext h)

end Cert.Bfp

end
-- ==== Proof.Tile0.lean ====
/- One 64-row, 256-column tile of the first call: what the kernel computes of it, element by element, in terms of the
   numbers of Scalar.lean. Both halves of a 128-row block run the same operations on their own tile. -/
module

public import proofs.«01_k».proof.Proof.Scalar
public import Idealize.ShloMosaic.Lib.Pointwise

@[expose] public section

set_option maxRecDepth 16384

noncomputable section

namespace Cert.KernelIdeal.Value

open Idealize.ShloMosaic Cert.KernelIdeal Cert.KernelIdeal.Gen Cert.Bfp

variable {F : FTy → Type} [FloatOps F]

/-- The scales of a tile's 256 columns. -/
def xScale (v : Vec F S1x64x256 .bf16) : FVec F S1x256 .f32 :=
  k0_pay10 (k0_pay8 (k0_pay3 v)) (k0_pay9 (k0_pay3 v) (k0_pay4 v) (k0_pay5 v) (k0_pay6 v)) 0#32

/-- The tile times the inverse scales. -/
def xScaled (v : Vec F S1x64x256 .bf16) : FVec F S64x256 .f32 :=
  k0_pay11 (k0_pay2 v) (k0_pay7 (k0_pay3 v) (k0_pay4 v) (k0_pay5 v) (k0_pay6 v)) (k0_pay8 (k0_pay3 v))

/-- The tile rounded: seed `s`, flat position of the tile's corner `b`. -/
def xQuant (s : BitVec 32) (b : BitVec 32) (v : Vec F S1x64x256 .bf16) : FVec F S64x256 .f32 :=
  k0_pay13 (xScaled v) (k0_pay12 (F := F) s b)

/-- The scale of column `l` is the scale of the column's greatest magnitude. -/
theorem xScale_apply (v : Vec F S1x64x256 .bf16) (j : S1x256.Idx) : xScale v j = scale (k0_pay3 v j) := rfl

/-- An element of the rounded tile. -/
theorem xQuant_apply (s b : BitVec 32) (v : Vec F S1x64x256 .bf16) (i : Fin 64) (l : Fin 256) :
    xQuant s b v (ix2 i l)
      = quant (FloatOps.extf .f32 bitsLt_bf16_f32 (v (ix3 0 i l))) (mult (k0_pay3 v (ix2 0 l)))
          (IntOp.xori (IntOp.addi (IntOp.addi (IntOp.muli (BitVec.ofNat 32 i) 3584#32) (BitVec.ofNat 32 l)) b) s) := by
  have h1 : k0_pay2 v (ix2 i l) = v (ix3 0 i l) := by pointwise [k0_pay2]
  have h2 : ∀ w : FVec F S1x256 .f32, broadcastTo S64x256 w broadcasts_S1x256_S64x256 (ix2 i l) = w (ix2 0 l) := by
    intro w; pointwise
  have h3 : xScaled v (ix2 i l) = FloatOps.mulf (FloatOps.extf .f32 bitsLt_bf16_f32 (k0_pay2 v (ix2 i l)))
      (broadcastTo S64x256 (fun j => mult (k0_pay3 v j)) broadcasts_S1x256_S64x256 (ix2 i l)) := rfl
  rw [h1, h2] at h3
  have h4 : k0_pay12 (F := F) s b (ix2 i l) = FloatOps.sitofp .f32 (hash (IntOp.xori (IntOp.addi (IntOp.addi
      (IntOp.muli (iota .tc S64x256 32 [0] iota_S64x256_d0_w32 (ix2 i l)) 3584#32)
      (iota .tc S64x256 32 [1] iota_S64x256_d1_w32 (ix2 i l))) b) s)) := rfl
  rw [show iota .tc S64x256 32 [0] iota_S64x256_d0_w32 (ix2 i l) = BitVec.ofNat 32 i from by simp [iota],
    show iota .tc S64x256 32 [1] iota_S64x256_d1_w32 (ix2 i l) = BitVec.ofNat 32 l from by simp [iota]] at h4
  unfold xQuant quant
  rw [← h3, ← h4]
  rfl

/-- The codes of a tile. -/
def xCodes (s b : BitVec 32) (v : Vec F S1x64x256 .bf16) : IVec S1x64x256 8 :=
  k0_pay14 (xScaled v) (k0_pay12 (F := F) s b)

theorem xCodes_apply (s b : BitVec 32) (v : Vec F S1x64x256 .bf16) (o : Fin 1) (i : Fin 64) (l : Fin 256) :
    xCodes s b v (ix3 o i l) = code (xQuant s b v (ix2 i l)) := by
  have h : ∀ w : IVec S64x256 8, shapeCast S1x64x256 w shapeCasts_S64x256_S1x64x256 (ix3 o i l) = w (ix2 i l) := by
    intro w; pointwise
  exact h (trunci 8 (fptosi 32 (xQuant s b v)) natLt_8_32)

/-- The scales of a tile as they are stored. -/
def xScales (v : Vec F S1x64x256 .bf16) : FVec F S1x1x1x256 .f32 := k0_pay15 (xScale v)

theorem xScales_apply (v : Vec F S1x64x256 .bf16) (o p q : Fin 1) (l : Fin 256) :
    xScales v (ix4 o p q l) = scale (k0_pay3 v (ix2 0 l)) := by
  have h : ∀ w : FVec F S1x256 .f32, shapeCast S1x1x1x256 w shapeCasts_S1x256_S1x1x1x256 (ix4 o p q l) = w (ix2 0 l) := by
    intro w; pointwise
  exact h (xScale v)

/-- A tile's codes times their scales. -/
def xProd (s b : BitVec 32) (v : Vec F S1x64x256 .bf16) : FVec F S64x256 .bf16 :=
  k0_pay16 (xScale v) (xScaled v) (k0_pay12 (F := F) s b)

theorem xProd_apply (s b : BitVec 32) (v : Vec F S1x64x256 .bf16) (i : Fin 64) (l : Fin 256) :
    xProd s b v (ix2 i l)
      = FloatOps.mulf (FloatOps.truncf .bf16 bitsLt_bf16_f32 (xQuant s b v (ix2 i l)))
          (FloatOps.truncf .bf16 bitsLt_bf16_f32 (scale (k0_pay3 v (ix2 0 l)))) := by
  have h2 : ∀ w : FVec F S1x256 .bf16, broadcastTo S64x256 w broadcasts_S1x256_S64x256 (ix2 i l) = w (ix2 0 l) := by
    intro w; pointwise
  have h3 : xProd s b v (ix2 i l) = FloatOps.mulf (FloatOps.truncf .bf16 bitsLt_bf16_f32 (xQuant s b v (ix2 i l)))
      (broadcastTo S64x256 (fun j => FloatOps.truncf .bf16 bitsLt_bf16_f32 (xScale v j)) broadcasts_S1x256_S64x256 (ix2 i l)) := rfl
  rw [h3, h2]; rfl

/-- Two tiles side by side, turned: row `l` holds column `l` of the upper tile, then of the lower. -/
theorem pay1_apply (u w : FVec F S64x256 .bf16) (o : Fin 1) (l : Fin 256) (r : Fin 128) :
    k0_pay1 u w (ix3 o l r) = if h : r.val < 64 then u (ix2 ⟨r.val, h⟩ l) else w (ix2 ⟨r.val - 64, by omega⟩ l) := by
  pointwise [k0_pay1]

/-- The second half's rounded tile is the same function. -/
theorem pay29_eq (s b : BitVec 32) (v : Vec F S1x64x256 .bf16) :
    k0_pay29 s b (k0_pay27 (k0_pay17 v) (k0_pay18 v) (k0_pay22 (k0_pay18 v) k0_pay19 k0_pay20 k0_pay21) (k0_pay23 (k0_pay18 v) k0_pay19 k0_pay20 k0_pay21) 23#32) k0_pay28
      = xQuant s b v := rfl

theorem pay26_eq (v : Vec F S1x64x256 .bf16) :
    k0_pay26 (k0_pay18 v) (k0_pay22 (k0_pay18 v) k0_pay19 k0_pay20 k0_pay21) (k0_pay23 (k0_pay18 v) k0_pay19 k0_pay20 k0_pay21) 23#32
      = xScale v := rfl

theorem pay30_eq (s b : BitVec 32) (v : Vec F S1x64x256 .bf16) :
    k0_pay30 s b (k0_pay27 (k0_pay17 v) (k0_pay18 v) (k0_pay22 (k0_pay18 v) k0_pay19 k0_pay20 k0_pay21) (k0_pay23 (k0_pay18 v) k0_pay19 k0_pay20 k0_pay21) 23#32) k0_pay28
      = xCodes s b v := rfl

theorem pay32_eq (s b : BitVec 32) (v : Vec F S1x64x256 .bf16) :
    k0_pay32 s b (k0_pay26 (k0_pay18 v) (k0_pay22 (k0_pay18 v) k0_pay19 k0_pay20 k0_pay21) (k0_pay23 (k0_pay18 v) k0_pay19 k0_pay20 k0_pay21) 23#32)
      (k0_pay27 (k0_pay17 v) (k0_pay18 v) (k0_pay22 (k0_pay18 v) k0_pay19 k0_pay20 k0_pay21) (k0_pay23 (k0_pay18 v) k0_pay19 k0_pay20 k0_pay21) 23#32) k0_pay28
      = xProd s b v := rfl

end Cert.KernelIdeal.Value
end
-- ==== Proof.Tile1.lean ====
/- One 64-row, 512-column tile of the second call: what the kernel computes of it, element by element, in terms of the
   numbers of Scalar.lean; and one step of its product. -/
module

public import proofs.«01_k».proof.Proof.Spec
public import Idealize.ShloMosaic.Lib.Pointwise

@[expose] public section

set_option maxRecDepth 16384

noncomputable section

namespace Cert.KernelIdeal.Value

open Idealize.ShloMosaic Cert.KernelIdeal Cert.KernelIdeal.Gen Cert.Bfp

variable {F : FTy → Type} [FloatOps F]

/-- The scales of a tile's 512 columns. -/
def yScale (v : Vec F S1x64x512 .bf16) : FVec F S1x512 .f32 :=
  k1_pay15 (k1_pay13 (k1_pay8 v)) (k1_pay14 (k1_pay8 v) (k1_pay9 v) (k1_pay10 v) k1_pay11) 127#32

/-- The tile times the inverse scales. -/
def yScaled (v : Vec F S1x64x512 .bf16) : FVec F S64x512 .f32 :=
  k1_pay16 (k1_pay7 v) (k1_pay12 (k1_pay8 v) (k1_pay9 v) (k1_pay10 v) k1_pay11) (k1_pay13 (k1_pay8 v))

/-- The tile rounded: seed `s`, flat position of the tile's corner `b`. -/
def yQuant (s : BitVec 32) (b : BitVec 32) (v : Vec F S1x64x512 .bf16) : FVec F S64x512 .f32 :=
  k1_pay1 (yScaled v) (k1_pay17 (F := F) s b) 8#32

/-- The scale of column `l` is the scale of the column's greatest magnitude. -/
theorem yScale_apply (v : Vec F S1x64x512 .bf16) (j : S1x512.Idx) : yScale v j = scale (k1_pay8 v j) := rfl

/-- An element of the rounded tile. -/
theorem yQuant_apply (s b : BitVec 32) (v : Vec F S1x64x512 .bf16) (i : Fin 64) (l : Fin 512) :
    yQuant s b v (ix2 i l)
      = quant (FloatOps.extf .f32 bitsLt_bf16_f32 (v (ix3 0 i l))) (mult (k1_pay8 v (ix2 0 l)))
          (IntOp.xori (IntOp.addi (IntOp.addi (IntOp.muli (BitVec.ofNat 32 i) 18944#32) (BitVec.ofNat 32 l)) b) s) := by
  have h1 : k1_pay7 v (ix2 i l) = v (ix3 0 i l) := by pointwise [k1_pay7]
  have h2 : ∀ w : FVec F S1x512 .f32, broadcastTo S64x512 w broadcasts_S1x512_S64x512 (ix2 i l) = w (ix2 0 l) := by
    intro w; pointwise
  have h3 : yScaled v (ix2 i l) = FloatOps.mulf (FloatOps.extf .f32 bitsLt_bf16_f32 (k1_pay7 v (ix2 i l)))
      (broadcastTo S64x512 (fun j => mult (k1_pay8 v j)) broadcasts_S1x512_S64x512 (ix2 i l)) := rfl
  rw [h1, h2] at h3
  have h4 : IntOp.shrui .vector (k1_pay17 (F := F) s b (ix2 i l)) 8#32 = Bfp.hash (IntOp.xori (IntOp.addi (IntOp.addi
      (IntOp.muli (iota .tc S64x512 32 [0] iota_S64x512_d0_w32 (ix2 i l)) 18944#32)
      (iota .tc S64x512 32 [1] iota_S64x512_d1_w32 (ix2 i l))) b) s) := rfl
  rw [show iota .tc S64x512 32 [0] iota_S64x512_d0_w32 (ix2 i l) = BitVec.ofNat 32 i from by simp [iota],
    show iota .tc S64x512 32 [1] iota_S64x512_d1_w32 (ix2 i l) = BitVec.ofNat 32 l from by simp [iota]] at h4
  unfold yQuant quant
  rw [← h3, ← h4]
  rfl

/-- The codes of a tile. -/
def yCodes (s b : BitVec 32) (v : Vec F S1x64x512 .bf16) : IVec S1x64x512 8 :=
  k1_pay2 (yScaled v) (k1_pay17 (F := F) s b) 8#32

theorem yCodes_apply (s b : BitVec 32) (v : Vec F S1x64x512 .bf16) (o : Fin 1) (i : Fin 64) (l : Fin 512) :
    yCodes s b v (ix3 o i l) = code (yQuant s b v (ix2 i l)) := by
  have h : ∀ w : IVec S64x512 8, shapeCast S1x64x512 w shapeCasts_S64x512_S1x64x512 (ix3 o i l) = w (ix2 i l) := by
    intro w; pointwise
  exact h (trunci 8 (fptosi 32 (yQuant s b v)) natLt_8_32)

/-- The scales of a tile as they are stored. -/
def yScales (v : Vec F S1x64x512 .bf16) : FVec F S1x1x512 .f32 := k1_pay3 (yScale v)

theorem yScales_apply (v : Vec F S1x64x512 .bf16) (o p : Fin 1) (l : Fin 512) :
    yScales v (ix3 o p l) = scale (k1_pay8 v (ix2 0 l)) := by
  have h : ∀ w : FVec F S1x512 .f32, shapeCast S1x1x512 w shapeCasts_S1x512_S1x1x512 (ix3 o p l) = w (ix2 0 l) := by
    intro w; pointwise
  exact h (yScale v)

/-- A tile's codes times their scales. -/
def yProd (s b : BitVec 32) (v : Vec F S1x64x512 .bf16) : FVec F S64x512 .bf16 :=
  k1_pay4 (yScale v) (yScaled v) (k1_pay17 (F := F) s b) 8#32

theorem yProd_apply (s b : BitVec 32) (v : Vec F S1x64x512 .bf16) (i : Fin 64) (l : Fin 512) :
    yProd s b v (ix2 i l)
      = FloatOps.mulf (FloatOps.truncf .bf16 bitsLt_bf16_f32 (yQuant s b v (ix2 i l)))
          (FloatOps.truncf .bf16 bitsLt_bf16_f32 (scale (k1_pay8 v (ix2 0 l)))) := by
  have h2 : ∀ w : FVec F S1x512 .bf16, broadcastTo S64x512 w broadcasts_S1x512_S64x512 (ix2 i l) = w (ix2 0 l) := by
    intro w; pointwise
  have h5 : ∀ w : FVec F S64x512 .bf16, shapeCast S64x512 w shapeCasts_S64x512_S64x512 (ix2 i l) = w (ix2 i l) := by
    intro w; pointwise
  have h3 : mulf (truncf .bf16 (yQuant s b v) bitsLt_bf16_f32)
      (broadcastTo S64x512 (truncf .bf16 (yScale v) bitsLt_bf16_f32) broadcasts_S1x512_S64x512) (ix2 i l)
      = FloatOps.mulf (FloatOps.truncf .bf16 bitsLt_bf16_f32 (yQuant s b v (ix2 i l)))
      (broadcastTo S64x512 (fun j => FloatOps.truncf .bf16 bitsLt_bf16_f32 (yScale v j)) broadcasts_S1x512_S64x512 (ix2 i l)) := rfl
  refine (h5 _).trans (h3.trans ?_)
  rw [h2]; rfl

/-- One step of the product: the running sum plus the sum over the 1024 rows. -/
theorem pay6_apply (v8 : Vec Ideal S512x512 .f32) (v11 : Vec Ideal S1x512x1024 .bf16) (v13 : Vec Ideal S1024x512 .bf16)
    (r : Fin 512) (l : Fin 512) :
    k1_pay6 v8 v11 v13 (ix2 r l) = (v8 (ix2 r l) : EReal) + ∑ k : Fin 1024, (v11 (ix3 0 r k) : EReal) * v13 (ix2 k l) := by
  pointwise [k1_pay6]

/-- A tile's greatest magnitude along a column. -/
theorem pay8_apply (v : Vec Ideal S1x64x512 .bf16) (l : Fin 512) :
    k1_pay8 v (ix2 0 l) = Finset.univ.fold max (⊥ : EReal) fun i : Fin 64 => max (v (ix3 0 i l) : EReal) (-(v (ix3 0 i l) : EReal)) := by
  pointwise [k1_pay8, k1_pay7]
  rw [ofBits_neg_inf]; rfl

theorem pay3_apply (v : Vec Ideal S1x64x256 .bf16) (l : Fin 256) :
    k0_pay3 v (ix2 0 l) = Finset.univ.fold max (⊥ : EReal) fun i : Fin 64 => max (v (ix3 0 i l) : EReal) (-(v (ix3 0 i l) : EReal)) := by
  pointwise [k0_pay3, k0_pay2]
  rw [ofBits_neg_inf]; rfl

end Cert.KernelIdeal.Value
end
-- ==== Proof.Trip0.lean ====
/- One trip of the first call's loop: the values of its stores, as the quantiser of the block it reads. -/
module

public import proofs.«01_k».proof.Proof.Spec
public import proofs.«01_k».proof.Proof.Tile0
public import proofs.«01_k».proof.Proof.Tile1
public import proofs.«01_k».proof.Proof.Gen.KernelIdeal.Loops
public import Idealize.ShloMosaic.Lib.Pipeline
public import Idealize.ShloMosaic.Lib.Pipeline.ValueKit.Tiles

@[expose] public section

set_option maxRecDepth 16384

noncomputable section

namespace Cert.KernelIdeal.Value

open Idealize.ShloMosaic Cert.KernelIdeal Cert.KernelIdeal.Gen Cert.Bfp

/-! ## The trip's offsets and words as numbers -/

theorem k0_off1_val : ∀ k : Fin k0_t1_loop.trips, k0_off1 k = ![0, 0, 256 * k.val] := by decide +kernel
theorem k0_off2_val : ∀ k : Fin k0_t1_loop.trips, k0_off2 k = ![0, 0, 0, 256 * k.val] := by decide +kernel
theorem k0_off3_val : ∀ k : Fin k0_t1_loop.trips, k0_off3 k = ![0, 64, 256 * k.val] := by decide +kernel
theorem k0_off4_val : ∀ k : Fin k0_t1_loop.trips, k0_off4 k = ![0, 0, 1, 256 * k.val] := by decide +kernel
theorem k0_off5_val : ∀ k : Fin k0_t1_loop.trips, k0_off5 k = ![0, 256 * k.val, 0] := by decide +kernel
theorem k0_inb1_val : ∀ (k : Fin k0_t1_loop.trips) a, k0_off1 k a + S1x64x256.size a ≤ S1x128x3584.size a := by decide +kernel
theorem k0_inb3_val : ∀ (k : Fin k0_t1_loop.trips) a, k0_off3 k a + S1x64x256.size a ≤ S1x128x3584.size a := by decide +kernel
theorem k0_trips : k0_t1_loop.trips = 14 := by decide +kernel
theorem k0_col : ∀ k : Fin k0_t1_loop.trips, trip_k0_t1.sl.v4 k = BitVec.ofNat 32 (256 * k.val) := by decide +kernel

/-- The position word of element `(64 h + i, 256 k + l)` of a block whose first row is row `p` of the array. -/
theorem pos0 (p h k i l : ℕ) :
    IntOp.addi (IntOp.addi (IntOp.muli (BitVec.ofNat 32 i) 3584#32) (BitVec.ofNat 32 l))
      (IntOp.addi (IntOp.muli (IntOp.addi (BitVec.ofNat 32 p) (BitVec.ofNat 32 (64 * h))) 3584#32) (BitVec.ofNat 32 (256 * k)))
      = BitVec.ofNat 32 ((p + (64 * h + i)) * 3584 + (256 * k + l)) := by
  apply BitVec.eq_of_toNat_eq
  simp only [IntOp.addi, IntOp.muli, BitVec.toNat_add, BitVec.toNat_mul, BitVec.toNat_ofNat]
  omega

/-! ## One tile of a block -/

section tile
variable (x1 : Vec Ideal S1x128x3584 .bf16) (v : Vec Ideal S1x64x256 .bf16) (s : BitVec 32) (p h k : ℕ)
  (hv : ∀ (i : Fin 64) (l : Fin 256), v (ix3 0 i l) = at3 x1 0 (64 * h + i) (256 * k + l))
include hv

theorem tile0_max (l : Fin 256) : k0_pay3 v (ix2 0 l) = amax x1 0 h (256 * k + l) := by
  rw [pay3_apply]; unfold amax colMax
  congr 1; funext i; rw [hv]

theorem tile0_quant (bs : BitVec 32)
    (hb : bs = IntOp.addi (IntOp.muli (IntOp.addi (BitVec.ofNat 32 p) (BitVec.ofNat 32 (64 * h))) 3584#32) (BitVec.ofNat 32 (256 * k)))
    (i : Fin 64) (l : Fin 256) :
    xQuant s bs v (ix2 i l) = qAt x1 (seeded s 3584 (p + (64 * h + i)) (256 * k + l)) 0 (64 * h + i) (256 * k + l) := by
  rw [xQuant_apply, hb, pos0, tile0_max x1 v h k hv]
  unfold qAt seeded
  rw [show (64 * h + i.val) / 64 = h by omega]
  exact congrArg (fun e => quant (F := Ideal) e _ _) (hv i l)

theorem tile0_prod (bs : BitVec 32)
    (hb : bs = IntOp.addi (IntOp.muli (IntOp.addi (BitVec.ofNat 32 p) (BitVec.ofNat 32 (64 * h))) 3584#32) (BitVec.ofNat 32 (256 * k)))
    (i : Fin 64) (l : Fin 256) :
    xProd s bs v (ix2 i l) = pAt x1 (seeded s 3584 (p + (64 * h + i)) (256 * k + l)) 0 (64 * h + i) (256 * k + l) := by
  rw [xProd_apply, tile0_quant x1 v s p h k hv bs hb, tile0_max x1 v h k hv]
  unfold pAt sAt
  rw [show (64 * h + i.val) / 64 = h by omega]
  rfl

end tile

/-- A tile read from the block: 64 rows from row `o1`, 256 columns from column `o2`. -/
theorem read0 (arg3 : Memref sig .tc .vmem S1x128x3584 .bf16) (x1 : Vec Ideal S1x128x3584 .bf16)
    (X : BufTy.Contents (Elt Ideal) arg3.view.ty) (hx : arg3.view.read (Elt Ideal) X = x1)
    (off : Fin 3 → ℕ) (o1 o2 : ℕ) (ho : off = ![0, o1, o2]) (inb : ∀ a, off a + S1x64x256.size a ≤ S1x128x3584.size a)
    (i : Fin 64) (l : Fin 256) :
    View.readAt (Elt Ideal) arg3.view (Rect.unit (s := S1x128x3584) off S1x64x256.size inb).toLoadRect X (ix3 0 i l) = at3 x1 0 (o1 + i) (o2 + l) := by
  subst ho
  have h1 := inb 1
  have h2 := inb 2
  change o1 + 64 ≤ 128 at h1
  change o2 + 256 ≤ 3584 at h2
  refine (congrFun (View.readAt_eq_ld ..) _).trans ?_
  rw [hx]
  have e := at3_ix3 x1 0 ⟨o1 + i, by omega⟩ ⟨o2 + l, by omega⟩
  refine Eq.trans ?_ e.symm
  apply View.ld_unit_apply_of
  intro a
  match a with
  | ⟨0, _⟩ => rfl
  | ⟨1, _⟩ => rfl
  | ⟨2, _⟩ => rfl

/-! ## The stores of one trip -/

section trip
variable (𝒱 : Variants) (c : Dev nD) (bd : Option 𝒱.V) (i : grid0.Coords) (arg2 : Memref sig .tc .smem S2 .i32) (harg2 : arg2.IsWhole)
  (arg3 : Memref sig .tc .vmem S1x128x3584 .bf16) (harg3 : arg3.IsWhole) (arg4 : Memref sig .tc .vmem S1x128x3584 .i8) (harg4 : arg4.IsWhole)
  (arg5 : Memref sig .tc .vmem S1x1x2x3584 .f32) (harg5 : arg5.IsWhole) (arg6 : Memref sig .tc .vmem S1x3584x128 .bf16) (harg6 : arg6.IsWhole)
  (v2 : BitVec 32) (X_arg2 : BufTy.Contents (Elt Ideal) arg2.view.ty) (X_arg3 : BufTy.Contents (Elt Ideal) arg3.view.ty)
  (k : Fin k0_t1_loop.trips)
  (x1 : Vec Ideal S1x128x3584 .bf16) (s : BitVec 32) (p : ℕ)
  (hx : arg3.view.read (Elt Ideal) X_arg3 = x1) (hs : trip_k0_t1.sl.r arg2 X_arg2 = s) (hp : v2 = BitVec.ofNat 32 p)
include hx hs hp

/-- Every code a trip stores is the code of the rounded value at its place. -/
theorem trip0_codes (o : Fin 1) (r : Fin 128) (l : Fin 3584) :
    View.AllAt (trip_k0_t1 (F := Ideal) 𝒱 c bd i arg2 harg2 arg3 harg3 arg4 harg4 arg5 harg5 arg6 harg6 v2 X_arg2 X_arg3 k).1
      (ix3 o r l) (code (F := Ideal) (qAt x1 (seeded s 3584 (p + r) l) 0 r l)) := by
  subst hs
  unfold trip_k0_t1
  dsimp only
  refine View.allAt_cons_unit _ _ _ _ _ ?_ (View.allAt_cons_unit _ _ _ _ _ ?_ (View.allAt_nil _ _))
  · intro x hx'
    obtain ⟨a, b, d, rfl⟩ : ∃ a b d, x = ix3 (n0 := 1) (n1 := 64) (n2 := 256) a b d := ⟨x 0, x 1, x 2, (ix3_eta x).symm⟩
    rw [k0_off3_val] at hx'
    have e1 : r.val = 64 * 1 + b.val := hx' 1
    have e2 : l.val = 256 * k.val + d.val := hx' 2
    have hr : code (F := Ideal) (qAt x1 (seeded (trip_k0_t1.sl.r arg2 X_arg2) 3584 (p + r) l) 0 r l)
        = code (F := Ideal) (qAt x1 (seeded (trip_k0_t1.sl.r arg2 X_arg2) 3584 (p + (64 * 1 + b)) (256 * k + d)) 0 (64 * 1 + b) (256 * k + d)) := by
      rw [e1, e2]
    refine Eq.trans ?_ hr.symm
    refine (xCodes_apply _ _ _ a b d).trans (congrArg (code (F := Ideal)) (tile0_quant x1 _ _ p 1 k.val ?_ _ ?_ b d))
    · exact fun i l => read0 arg3 x1 X_arg3 hx _ 64 _ (k0_off3_val k) _ i l
    · rw [← hp, ← k0_col]; rfl
  · intro x hx'
    obtain ⟨a, b, d, rfl⟩ : ∃ a b d, x = ix3 (n0 := 1) (n1 := 64) (n2 := 256) a b d := ⟨x 0, x 1, x 2, (ix3_eta x).symm⟩
    rw [k0_off1_val] at hx'
    have e1 : r.val = 0 + b.val := hx' 1
    have e2 : l.val = 256 * k.val + d.val := hx' 2
    have hr : code (F := Ideal) (qAt x1 (seeded (trip_k0_t1.sl.r arg2 X_arg2) 3584 (p + r) l) 0 r l)
        = code (F := Ideal) (qAt x1 (seeded (trip_k0_t1.sl.r arg2 X_arg2) 3584 (p + (64 * 0 + b)) (256 * k + d)) 0 (64 * 0 + b) (256 * k + d)) := by
      rw [show r.val = 64 * 0 + b.val by omega, e2]
    refine Eq.trans ?_ hr.symm
    refine (xCodes_apply _ _ _ a b d).trans (congrArg (code (F := Ideal)) (tile0_quant x1 _ _ p 0 k.val ?_ _ ?_ b d))
    · exact fun i l => read0 arg3 x1 X_arg3 hx _ 0 _ (k0_off1_val k) _ i l
    · rw [← hp, ← k0_col]; rfl

/-- Every scale a trip stores is the scale at its place. -/
theorem trip0_scales (o1 o2 : Fin 1) (q : Fin 2) (l : Fin 3584) :
    View.AllAt (trip_k0_t1 (F := Ideal) 𝒱 c bd i arg2 harg2 arg3 harg3 arg4 harg4 arg5 harg5 arg6 harg6 v2 X_arg2 X_arg3 k).2.1
      (ix4 o1 o2 q l) (sAt x1 0 q l : EReal) := by
  subst hs
  unfold trip_k0_t1
  dsimp only
  refine View.allAt_cons_unit _ _ _ _ _ ?_ (View.allAt_cons_unit _ _ _ _ _ ?_ (View.allAt_nil _ _))
  · intro x hx'
    obtain ⟨a, b, d, e, rfl⟩ : ∃ a b d e, x = ix4 (n0 := 1) (n1 := 1) (n2 := 1) (n3 := 256) a b d e :=
      ⟨x 0, x 1, x 2, x 3, (ix4_eta x).symm⟩
    rw [k0_off4_val] at hx'
    have e1 : q.val = 1 + d.val := hx' 2
    have e2 : l.val = 256 * k.val + e.val := hx' 3
    have hr : sAt x1 0 q l = sAt x1 0 1 (256 * k + e) := by
      rw [show q.val = 1 by omega, e2]
    refine Eq.trans ?_ hr.symm
    refine (xScales_apply _ a b d e).trans (congrArg (scale (F := Ideal)) (tile0_max x1 _ 1 k.val ?_ e))
    exact fun i l => read0 arg3 x1 X_arg3 hx _ 64 _ (k0_off3_val k) _ i l
  · intro x hx'
    obtain ⟨a, b, d, e, rfl⟩ : ∃ a b d e, x = ix4 (n0 := 1) (n1 := 1) (n2 := 1) (n3 := 256) a b d e :=
      ⟨x 0, x 1, x 2, x 3, (ix4_eta x).symm⟩
    rw [k0_off2_val] at hx'
    have e1 : q.val = 0 + d.val := hx' 2
    have e2 : l.val = 256 * k.val + e.val := hx' 3
    have hr : sAt x1 0 q l = sAt x1 0 0 (256 * k + e) := by
      rw [show q.val = 0 by omega, e2]
    refine Eq.trans ?_ hr.symm
    refine (xScales_apply _ a b d e).trans (congrArg (scale (F := Ideal)) (tile0_max x1 _ 0 k.val ?_ e))
    exact fun i l => read0 arg3 x1 X_arg3 hx _ 0 _ (k0_off1_val k) _ i l

/-- Every element of the transposed dequantised block a trip stores is the dequantised element at its place. -/
theorem trip0_prods (o : Fin 1) (l : Fin 3584) (r : Fin 128) :
    View.AllAt (trip_k0_t1 (F := Ideal) 𝒱 c bd i arg2 harg2 arg3 harg3 arg4 harg4 arg5 harg5 arg6 harg6 v2 X_arg2 X_arg3 k).2.2.1
      (ix3 o l r) (pAt x1 (seeded s 3584 (p + r) l) 0 r l : EReal) := by
  subst hs
  unfold trip_k0_t1
  dsimp only
  refine View.allAt_cons_unit _ _ _ _ _ ?_ (View.allAt_nil _ _)
  intro x hx'
  obtain ⟨a, b, d, rfl⟩ : ∃ a b d, x = ix3 (n0 := 1) (n1 := 256) (n2 := 128) a b d := ⟨x 0, x 1, x 2, (ix3_eta x).symm⟩
  rw [k0_off5_val] at hx'
  have e1 : l.val = 256 * k.val + b.val := hx' 1
  have e2 : r.val = 0 + d.val := hx' 2
  have hr : pAt x1 (seeded (trip_k0_t1.sl.r arg2 X_arg2) 3584 (p + r) l) 0 r l = pAt x1 (seeded (trip_k0_t1.sl.r arg2 X_arg2) 3584 (p + d) (256 * k + b)) 0 d (256 * k + b) := by
    rw [show r.val = d.val by omega, e1]
  refine Eq.trans ?_ hr.symm
  refine (pay1_apply _ _ a b d).trans ?_
  by_cases h : d.val < 64
  · rw [dif_pos h]
    have := tile0_prod x1 (View.readAt (Elt Ideal) arg3.view (Rect.unit (s := S1x128x3584) (k0_off1 k) S1x64x256.size (k0_inb1_val k)).toLoadRect X_arg3) (trip_k0_t1.sl.r arg2 X_arg2) p 0 k.val
      (fun i l => read0 arg3 x1 X_arg3 hx _ 0 _ (k0_off1_val k) _ i l) (trip_k0_t1.sl.v13 v2 k) (by rw [← hp, ← k0_col]; rfl) ⟨d.val, h⟩ b
    dsimp only at this
    rw [show 64 * 0 + d.val = d.val by omega] at this
    exact this
  · rw [dif_neg h]
    have := tile0_prod x1 (View.readAt (Elt Ideal) arg3.view (Rect.unit (s := S1x128x3584) (k0_off3 k) S1x64x256.size (k0_inb3_val k)).toLoadRect X_arg3) (trip_k0_t1.sl.r arg2 X_arg2) p 1 k.val
      (fun i l => read0 arg3 x1 X_arg3 hx _ 64 _ (k0_off3_val k) _ i l) (trip_k0_t1.sl.v165 v2 k) (by rw [← hp, ← k0_col]; rfl) ⟨d.val - 64, by omega⟩ b
    dsimp only at this
    rw [show 64 * 1 + (d.val - 64) = d.val by omega] at this
    exact this

end trip

end Cert.KernelIdeal.Value

end
-- ==== Proof.Block0.lean ====
/- What one grid point of the first call leaves in its three output blocks, element by element. -/
module

public import proofs.«01_k».proof.Proof.Trip0
public import proofs.«01_k».proof.Proof.KernelIdealFrame

@[expose] public section

set_option maxRecDepth 16384

noncomputable section

namespace Cert.KernelIdeal.Value

open Idealize.ShloMosaic Cert.KernelIdeal Cert.KernelIdeal.Gen Cert.Bfp

/-- Two lists of stores that agree on the value at an element agree on it together. -/
theorem allAt_append {Val : EltTy → Type} {S : Shape} {e : EltTy} {L L' : List (View.Piece Val S e)} {y : S.Idx} {v : Val e}
    (h : View.AllAt L y v) (h' : View.AllAt L' y v) : View.AllAt (L ++ L') y v :=
  fun p hp => (List.mem_append.mp hp).elim (h p) (h' p)

/-- Stores that cover an element and agree on its value leave that value there. -/
theorem read_writes_of_allAt {Val : EltTy → Type} [∀ e, Nonempty (Val e)] {κ : Kind} {sp : Space} {S : Shape} {e : EltTy}
    (v : View sig κ sp S e) (f : v.ty.Contents Val) {L : List (View.Piece Val S e)} {y : S.Idx} {x : Val e}
    (hc : ∃ p ∈ L, y ∈ p.1.set) (h : View.AllAt L y x) : v.read Val (v.writes Val f L) y = x :=
  (View.read_writes_apply_eq_canon v f y L hc).trans (View.canon_eq_of_allAt L y x hc h)

section loop
variable (𝒱 : Variants) (c : Dev nD) (bd : Option 𝒱.V) (i : grid0.Coords) (arg2 : Memref sig .tc .smem S2 .i32) (harg2 : arg2.IsWhole)
  (arg3 : Memref sig .tc .vmem S1x128x3584 .bf16) (harg3 : arg3.IsWhole) (arg4 : Memref sig .tc .vmem S1x128x3584 .i8) (harg4 : arg4.IsWhole)
  (arg5 : Memref sig .tc .vmem S1x1x2x3584 .f32) (harg5 : arg5.IsWhole) (arg6 : Memref sig .tc .vmem S1x3584x128 .bf16) (harg6 : arg6.IsWhole)
  (v2 : BitVec 32) (X_arg2 : BufTy.Contents (Elt Ideal) arg2.view.ty) (X_arg3 : BufTy.Contents (Elt Ideal) arg3.view.ty)
  (x1 : Vec Ideal S1x128x3584 .bf16) (s : BitVec 32) (p : ℕ)
  (hx : arg3.view.read (Elt Ideal) X_arg3 = x1) (hs : trip_k0_t1.sl.r arg2 X_arg2 = s) (hp : v2 = BitVec.ofNat 32 p)
include hx hs hp

/-- The stores of the first `n` trips agree with the block's codes, scales and transposed products. -/
theorem loop0 : ∀ n ≤ k0_t1_loop.trips,
    (∀ (o : Fin 1) (r : Fin 128) (l : Fin 3584),
      View.AllAt (pb_k0_t1 (F := Ideal) 𝒱 c bd i arg2 harg2 arg3 harg3 arg4 harg4 arg5 harg5 arg6 harg6 v2 X_arg2 X_arg3 n).1
        (ix3 o r l) (code (F := Ideal) (qAt x1 (seeded s 3584 (p + r) l) 0 r l)))
    ∧ (∀ (o1 o2 : Fin 1) (q : Fin 2) (l : Fin 3584),
      View.AllAt (pb_k0_t1 (F := Ideal) 𝒱 c bd i arg2 harg2 arg3 harg3 arg4 harg4 arg5 harg5 arg6 harg6 v2 X_arg2 X_arg3 n).2.1
        (ix4 o1 o2 q l) (sAt x1 0 q l : EReal))
    ∧ (∀ (o : Fin 1) (l : Fin 3584) (r : Fin 128),
      View.AllAt (pb_k0_t1 (F := Ideal) 𝒱 c bd i arg2 harg2 arg3 harg3 arg4 harg4 arg5 harg5 arg6 harg6 v2 X_arg2 X_arg3 n).2.2
        (ix3 o l r) (pAt x1 (seeded s 3584 (p + r) l) 0 r l : EReal))
  | 0, _ => ⟨fun _ _ _ => View.allAt_nil _ _, fun _ _ _ _ => View.allAt_nil _ _, fun _ _ _ => View.allAt_nil _ _⟩
  | n + 1, hn => by
    obtain ⟨h1, h2, h3⟩ := loop0 n (by omega)
    have e := pb_k0_t1_succ (F := Ideal) 𝒱 c bd i arg2 harg2 arg3 harg3 arg4 harg4 arg5 harg5 arg6 harg6 v2 X_arg2 X_arg3 ⟨n, hn⟩
    dsimp only at e
    rw [e]
    exact ⟨fun o r l => allAt_append (trip0_codes _ _ _ _ _ _ _ _ _ _ _ _ _ _ _ _ _ _ _ _ _ hx hs hp o r l) (h1 o r l),
      fun o1 o2 q l => allAt_append (trip0_scales _ _ _ _ _ _ _ _ _ _ _ _ _ _ _ _ _ _ _ _ _ hx hs hp o1 o2 q l) (h2 o1 o2 q l),
      fun o l r => allAt_append (trip0_prods _ _ _ _ _ _ _ _ _ _ _ _ _ _ _ _ _ _ _ _ _ hx hs hp o l r) (h3 o l r)⟩

end loop

/-! ## The three blocks -/

section block
variable (c : Dev nD) (i : grid0.Coords) (arg2 : Memref sig .tc .smem S2 .i32) (harg2 : arg2.IsWhole)
  (arg3 : Memref sig .tc .vmem S1x128x3584 .bf16) (harg3 : arg3.IsWhole) (arg4 : Memref sig .tc .vmem S1x128x3584 .i8) (harg4 : arg4.IsWhole)
  (arg5 : Memref sig .tc .vmem S1x1x2x3584 .f32) (harg5 : arg5.IsWhole) (arg6 : Memref sig .tc .vmem S1x3584x128 .bf16) (harg6 : arg6.IsWhole)
  (x0 : Vec Ideal S2 .i32) (x1 : Vec Ideal S1x128x3584 .bf16)

/-- The first seed as a trip reads it. -/
theorem seed0 : trip_k0_t1.sl.r (F := Ideal) arg2 (harg2.unread x0) = x0 (ix1 0) := by
  refine (congrFun (View.readAt_eq_ld ..) _).trans ?_
  rw [harg2.read_unread]
  exact View.ld_unit_apply_of _ _ _ _ _ _ (fun a => by match a with | ⟨0, _⟩ => rfl)

/-- The number of the block's first row. -/
theorem row0 (b t : ℕ) : Scalar.addi (Scalar.muli (BitVec.ofNat 32 b) 1024#32) (Scalar.muli (BitVec.ofNat 32 t) 128#32)
    = BitVec.ofNat 32 (b * 1024 + t * 128) := by
  apply BitVec.eq_of_toNat_eq
  simp [Scalar.addi, Scalar.muli, IntOp.addi, IntOp.muli, BitVec.toNat_add, BitVec.toNat_mul]

/-- The block of codes. -/
theorem block0_codes (o : Fin 1) (r : Fin 128) (l : Fin 3584) :
    out0_A_2 c i arg2 harg2 arg3 harg3 arg4 harg4 arg5 harg5 arg6 harg6 x0 x1 (ix3 o r l)
      = code (F := Ideal) (qAt x1 (seeded (x0 (ix1 0)) 3584 ((i 0).val * 1024 + (i 1).val * 128 + r) l) 0 r l) :=
  read_writes_of_allAt _ _ (cover0_A_2 ..)
    ((loop0 _ c _ i arg2 harg2 arg3 harg3 arg4 harg4 arg5 harg5 arg6 harg6 _ _ _ x1 _ _
      (harg3.read_unread x1) (seed0 arg2 harg2 x0) (row0 _ _) _ le_rfl).1 o r l)

/-- The block of scales. -/
theorem block0_scales (o1 o2 : Fin 1) (q : Fin 2) (l : Fin 3584) :
    out0_A_3 c i arg2 harg2 arg3 harg3 arg4 harg4 arg5 harg5 arg6 harg6 x0 x1 (ix4 o1 o2 q l) = (sAt x1 0 q l : EReal) :=
  read_writes_of_allAt _ _ (cover0_A_3 ..)
    ((loop0 _ c _ i arg2 harg2 arg3 harg3 arg4 harg4 arg5 harg5 arg6 harg6 _ _ _ x1 _ _
      (harg3.read_unread x1) (seed0 arg2 harg2 x0) (row0 _ _) _ le_rfl).2.1 o1 o2 q l)

/-- The transposed block of products. -/
theorem block0_prods (o : Fin 1) (l : Fin 3584) (r : Fin 128) :
    out0_A_4 c i arg2 harg2 arg3 harg3 arg4 harg4 arg5 harg5 arg6 harg6 x0 x1 (ix3 o l r)
      = (pAt x1 (seeded (x0 (ix1 0)) 3584 ((i 0).val * 1024 + (i 1).val * 128 + r) l) 0 r l : EReal) :=
  read_writes_of_allAt _ _ (cover0_A_4 ..)
    ((loop0 _ c _ i arg2 harg2 arg3 harg3 arg4 harg4 arg5 harg5 arg6 harg6 _ _ _ x1 _ _
      (harg3.read_unread x1) (seed0 arg2 harg2 x0) (row0 _ _) _ le_rfl).2.2 o l r)

end block

end Cert.KernelIdeal.Value

end
-- ==== Proof.Blocks.lean ====
/- A block cut out of a whole array, seen through the quantiser: the rounded values, scales and products of a block whose
   rows begin at a multiple of 64 are those of the whole array at the block's place. Also the arrays of codes, scales and
   products that a whole array gives. -/
module

public import proofs.«01_k».proof.Proof.Spec

@[expose] public section

noncomputable section

namespace Cert.Bfp

open Idealize.ShloMosaic

section block
variable {n0 n1 n2 m0 m1 m2 : ℕ} {X : (⟨3, ![n0, n1, n2]⟩ : Shape).Idx → EReal} {Y : (⟨3, ![m0, m1, m2]⟩ : Shape).Idx → EReal}
  {b c' m n : ℕ} {c : ℕ}

/-- The greatest magnitude of a block of rows is that of the whole array's rows there. -/
theorem amax_block (h : ∀ s < 64 * n, at3 Y 0 s c = at3 X b (64 * m + s) c') {q : ℕ} (hq : q < n) :
    amax Y 0 q c = amax X b (m + q) c' :=
  amax_congr Y X _ _ _ _ _ _ fun i => (h _ (by omega)).trans (by rw [Nat.mul_add, Nat.add_assoc])

/-- The scale likewise. -/
theorem sAt_block (h : ∀ s < 64 * n, at3 Y 0 s c = at3 X b (64 * m + s) c') {q : ℕ} (hq : q < n) :
    sAt Y 0 q c = sAt X b (m + q) c' := by
  unfold sAt; rw [amax_block h hq]

/-- The rounded value likewise. -/
theorem qAt_block (h : ∀ s < 64 * n, at3 Y 0 s c = at3 X b (64 * m + s) c') (w : BitVec 32) {r : ℕ} (hr : r < 64 * n) :
    qAt Y w 0 r c = qAt X w b (64 * m + r) c' := by
  unfold qAt
  rw [amax_block h (q := r / 64) (by omega), h r hr, show (64 * m + r) / 64 = m + r / 64 by omega]

/-- The product likewise. -/
theorem pAt_block (h : ∀ s < 64 * n, at3 Y 0 s c = at3 X b (64 * m + s) c') (w : BitVec 32) {r : ℕ} (hr : r < 64 * n) :
    pAt Y w 0 r c = pAt X w b (64 * m + r) c' := by
  unfold pAt
  rw [qAt_block h w hr, sAt_block h (q := r / 64) (by omega), show (64 * m + r) / 64 = m + r / 64 by omega]

end block

/-- The seeded position of element `(b, s, c)` of an array of 1024 rows and `C` columns a slab. -/
def pos (w : BitVec 32) (C b s c : ℕ) : BitVec 32 := seeded w C (b * 1024 + s) c

/-- The array of codes of `X` under the seed `w`. -/
def codesOf {n0 n1 n2 : ℕ} (X : (⟨3, ![n0, n1, n2]⟩ : Shape).Idx → EReal) (w : BitVec 32) :
    (⟨3, ![n0, n1, n2]⟩ : Shape).Idx → BitVec 8 :=
  fun i => code (F := Ideal) (qAt X (pos w n2 (i 0).val (i 1).val (i 2).val) (i 0).val (i 1).val (i 2).val)

/-- The dequantised element of `X` under the seed `w`. -/
def deq {n0 n1 n2 : ℕ} (X : (⟨3, ![n0, n1, n2]⟩ : Shape).Idx → EReal) (w : BitVec 32) (b s c : ℕ) : EReal :=
  pAt X (pos w n2 b s c) b s c

/-- The array of dequantised elements of `X`, its last two axes exchanged. -/
def deqT {n0 n1 n2 : ℕ} (X : (⟨3, ![n0, n1, n2]⟩ : Shape).Idx → EReal) (w : BitVec 32) :
    (⟨3, ![n0, n2, n1]⟩ : Shape).Idx → EReal :=
  fun i => deq X w (i 0).val (i 2).val (i 1).val

/-- The array of scales of `X`, one for each 64 rows. -/
def scalesOf {n0 n1 n2 : ℕ} (X : (⟨3, ![n0, n1, n2]⟩ : Shape).Idx → EReal) (k : ℕ) :
    (⟨3, ![n0, k, n2]⟩ : Shape).Idx → EReal :=
  fun i => sAt X (i 0).val (i 1).val (i 2).val

/-- The array of scales with two axes for the blocks of rows. -/
def scales4Of {n0 n1 n2 : ℕ} (X : (⟨3, ![n0, n1, n2]⟩ : Shape).Idx → EReal) (k : ℕ) :
    (⟨4, ![n0, k, 2, n2]⟩ : Shape).Idx → EReal :=
  fun i => sAt X (i 0).val ((i 1).val * 2 + (i 2).val) (i 3).val

end Cert.Bfp

end
-- ==== Proof.Array0.lean ====
/- What the first call leaves in its three output arrays, as functions of the array it quantises and of its seed. -/
module

public import proofs.«01_k».proof.Proof.Block0
public import proofs.«01_k».proof.Proof.Blocks
public import Idealize.ShloMosaic.Lib.Pipeline.ValueKit

@[expose] public section

set_option maxRecDepth 16384

noncomputable section

namespace Cert.KernelIdeal.Value

open Idealize.ShloMosaic Cert.KernelIdeal Cert.KernelIdeal.Gen Cert.Bfp

/-- The windows' block indices at a point. -/
theorem index0_0 : ∀ t : Fin cfg0.N, win0_0.index t = ![0] := (by decide +kernel : ∀ t : Fin grid0.N, _)
theorem index0_1 : ∀ t : Fin cfg0.N, win0_1.index t = ![(grid0.coords t 0).val, (grid0.coords t 1).val, 0] :=
  (by decide +kernel : ∀ t : Fin grid0.N, _)
theorem index0_2 : ∀ t : Fin cfg0.N, win0_2.index t = ![(grid0.coords t 0).val, (grid0.coords t 1).val, 0] :=
  (by decide +kernel : ∀ t : Fin grid0.N, _)
theorem index0_3 : ∀ t : Fin cfg0.N, win0_3.index t = ![(grid0.coords t 0).val, (grid0.coords t 1).val, 0, 0] :=
  (by decide +kernel : ∀ t : Fin grid0.N, _)
theorem index0_4 : ∀ t : Fin cfg0.N, win0_4.index t = ![(grid0.coords t 0).val, 0, (grid0.coords t 1).val] :=
  (by decide +kernel : ∀ t : Fin grid0.N, _)

variable (V : (c : Dev nD) → (b : Ref sig .tc) → Buf (Elt Ideal) ((c.tc : Thread nD τ).loc b)) (c : Dev nD) (t : Fin cfg0.N)

/-- The array that is quantised. -/
abbrev arr0 : S12x1024x3584.Idx → EReal := V c main_arg0
/-- The two seeds. -/
abbrev seeds : S2.Idx → BitVec 32 := V c main_v0

theorem seedBlk0 : (iblk0 V c 0 t : S2.Idx → BitVec 32) = seeds V c := by
  funext y
  blk_simp [iblk0]
  congr 1
  blk_ext [index0_0]

theorem inBlk0 (o : Fin 1) (r : Fin 128) (l : Fin 3584) :
    (iblk0 V c 1 t : S1x128x3584.Idx → EReal) (ix3 o r l)
      = at3 (arr0 V c) (grid0.coords t 0).val (64 * (2 * (grid0.coords t 1).val) + r) l := by
  have h0 : (grid0.coords t 0).val < 12 := (grid0.coords t 0).2
  have h1 : (grid0.coords t 1).val < 8 := (grid0.coords t 1).2
  refine Eq.trans ?_ (at3_ix3 (arr0 V c) ⟨(grid0.coords t 0).val, h0⟩ ⟨64 * (2 * (grid0.coords t 1).val) + r, by omega⟩ l).symm
  blk_simp [iblk0]
  congr 1
  blk_ext [index0_1]

theorem inBlk0_at (l : Fin 3584) : ∀ s < 64 * 2, at3 (iblk0 V c 1 t : S1x128x3584.Idx → EReal) 0 s l
      = at3 (arr0 V c) (grid0.coords t 0).val (64 * (2 * (grid0.coords t 1).val) + s) l := fun s hs =>
  (at3_ix3 (iblk0 V c 1 t : S1x128x3584.Idx → EReal) 0 ⟨s, hs⟩ l).trans (inBlk0 V c t 0 ⟨s, hs⟩ l)

theorem place0 (a b r : ℕ) : a * 1024 + b * 128 + r = a * 1024 + (64 * (2 * b) + r) := by omega

/-- The array of codes after the first call. -/
theorem codes0 : ((dat0 V c).arrAt 2 cfg0.N : S12x1024x3584.Idx → BitVec 8) = codesOf (arr0 V c) (seeds V c (ix1 0)) := by
  refine (dat0 V c).arrAt_eq_of_covers 2 _ (by decide +kernel) fun t hf y => ?_
  blk_simp
  rw [after0_2]
  refine (congrArg (outsAt0 V c t).1 (ix3_eta y).symm).trans ?_
  refine (block0_codes c (grid0.coords t) _ _ _ _ _ _ _ _ _ _ (iblk0 V c 0 t) (iblk0 V c 1 t) _ _ _).trans ?_
  rw [qAt_block (n := 2) (inBlk0_at V c t (y 2)) _ (y 1).2, seedBlk0 V c t]
  unfold codesOf pos
  have e0 : ((((win0_2.blk t).view.emb y) 0 : Fin _) : ℕ) = (grid0.coords t 0).val := by
    blk_simp [index0_2]; all_goals (idx_bounds y; omega)
  have e1 : ((((win0_2.blk t).view.emb y) 1 : Fin _) : ℕ) = 64 * (2 * (grid0.coords t 1).val) + y 1 := by
    blk_simp [index0_2]; all_goals (idx_bounds y; omega)
  have e2 : ((((win0_2.blk t).view.emb y) 2 : Fin _) : ℕ) = y 2 := by
    blk_simp [index0_2]; all_goals (idx_bounds y; omega)
  rw [e0, e1, e2, ← place0]

/-- The array of scales after the first call. -/
theorem scales0 : ((dat0 V c).arrAt 3 cfg0.N : S12x8x2x3584.Idx → EReal) = scales4Of (arr0 V c) 8 := by
  refine (dat0 V c).arrAt_eq_of_covers 3 _ (by decide +kernel) fun t hf y => ?_
  blk_simp
  rw [after0_3]
  refine (congrArg (outsAt0 V c t).2.1 (ix4_eta y).symm).trans ?_
  refine (block0_scales c (grid0.coords t) _ _ _ _ _ _ _ _ _ _ (iblk0 V c 0 t) (iblk0 V c 1 t) _ _ _ _).trans ?_
  rw [sAt_block (n := 2) (inBlk0_at V c t (y 3)) (y 2).2]
  unfold scales4Of
  have e0 : ((((win0_3.blk t).view.emb y) 0 : Fin _) : ℕ) = (grid0.coords t 0).val := by
    blk_simp [index0_3]; all_goals (idx_bounds y; omega)
  have e1 : ((((win0_3.blk t).view.emb y) 1 : Fin _) : ℕ) = (grid0.coords t 1).val := by
    blk_simp [index0_3]; all_goals (idx_bounds y; omega)
  have e2 : ((((win0_3.blk t).view.emb y) 2 : Fin _) : ℕ) = y 2 := by
    blk_simp [index0_3]; all_goals (idx_bounds y; omega)
  have e3 : ((((win0_3.blk t).view.emb y) 3 : Fin _) : ℕ) = y 3 := by
    blk_simp [index0_3]; all_goals (idx_bounds y; omega)
  rw [e0, e1, e2, e3, Nat.mul_comm 2]

/-- The transposed array of products after the first call. -/
theorem prods0 : ((dat0 V c).arrAt 4 cfg0.N : S12x3584x1024.Idx → EReal)
    = deqT (arr0 V c) (seeds V c (ix1 0)) := by
  refine (dat0 V c).arrAt_eq_of_covers 4 _ (by decide +kernel) fun t hf y => ?_
  blk_simp
  rw [after0_4]
  refine (congrArg (outsAt0 V c t).2.2 (ix3_eta y).symm).trans ?_
  refine (block0_prods c (grid0.coords t) _ _ _ _ _ _ _ _ _ _ (iblk0 V c 0 t) (iblk0 V c 1 t) _ _ _).trans ?_
  rw [pAt_block (n := 2) (inBlk0_at V c t (y 1)) _ (y 2).2, seedBlk0 V c t]
  unfold deqT deq pos
  have e0 : ((((win0_4.blk t).view.emb y) 0 : Fin _) : ℕ) = (grid0.coords t 0).val := by
    blk_simp [index0_4]; all_goals (idx_bounds y; omega)
  have e1 : ((((win0_4.blk t).view.emb y) 2 : Fin _) : ℕ) = 64 * (2 * (grid0.coords t 1).val) + y 2 := by
    blk_simp [index0_4]; all_goals (idx_bounds y; omega)
  have e2 : ((((win0_4.blk t).view.emb y) 1 : Fin _) : ℕ) = y 1 := by
    blk_simp [index0_4]; all_goals (idx_bounds y; omega)
  rw [e0, e1, e2, ← place0]

end Cert.KernelIdeal.Value

end
-- ==== Proof.Trip1.lean ====
/- One trip of the second call's quantising loop: the values of its stores, as the quantiser of the block it reads. -/
module

public import proofs.«01_k».proof.Proof.Spec
public import proofs.«01_k».proof.Proof.Tile1
public import proofs.«01_k».proof.Proof.Gen.KernelIdeal.Loops
public import Idealize.ShloMosaic.Lib.Pipeline
public import Idealize.ShloMosaic.Lib.Pipeline.ValueKit.Tiles

@[expose] public section

set_option maxRecDepth 16384

noncomputable section

namespace Cert.KernelIdeal.Value

open Idealize.ShloMosaic Cert.KernelIdeal Cert.KernelIdeal.Gen Cert.Bfp

/-! ## The trip's offsets and words as numbers -/

theorem k1_off1_val : ∀ k : Fin k1_t1_loop.trips, k1_off1 k = ![0, 64 * k.val, 0] := by decide +kernel
theorem k1_off2_val : ∀ k : Fin k1_t1_loop.trips, k1_off2 k = ![0, k.val, 0] := by decide +kernel
theorem k1_off3_val : ∀ k : Fin k1_t1_loop.trips, k1_off3 k = ![64 * k.val, 0] := by decide +kernel
theorem k1_off4_val : ∀ k : Fin k1_t2_loop.trips, k1_off4 k = ![512 * k.val, 0] := by decide +kernel
theorem k1_off5_val : ∀ k : Fin k1_t2_loop.trips, k1_off5 k = ![0, 512 * k.val, 0] := by decide +kernel
theorem k1_inb1_val : ∀ (k : Fin k1_t1_loop.trips) a, k1_off1 k a + S1x64x512.size a ≤ S1x1024x512.size a := by decide +kernel
theorem k1_trips1 : k1_t1_loop.trips = 16 := by decide +kernel
theorem k1_trips2 : k1_t2_loop.trips = 7 := by decide +kernel
theorem k1_row : ∀ k : Fin k1_t1_loop.trips, trip_k1_t1.sl.v5 k = BitVec.ofNat 32 (64 * k.val) := by decide +kernel

/-- The position word of element `(64 k + i, l)` of the block in batch `b`, column block `j`. -/
theorem pos1 (b j k i l : ℕ) :
    IntOp.addi (IntOp.addi (IntOp.muli (BitVec.ofNat 32 i) 18944#32) (BitVec.ofNat 32 l))
      (IntOp.addi (IntOp.muli (IntOp.addi (IntOp.muli (BitVec.ofNat 32 b) 1024#32) (BitVec.ofNat 32 (64 * k))) 18944#32)
        (IntOp.muli (BitVec.ofNat 32 j) 512#32))
      = BitVec.ofNat 32 ((b * 1024 + (64 * k + i)) * 18944 + (512 * j + l)) := by
  apply BitVec.eq_of_toNat_eq
  simp only [IntOp.addi, IntOp.muli, BitVec.toNat_add, BitVec.toNat_mul, BitVec.toNat_ofNat]
  omega

/-! ## One tile of a block -/

section tile
variable (x1 : Vec Ideal S1x1024x512 .bf16) (v : Vec Ideal S1x64x512 .bf16) (s : BitVec 32) (b j k : ℕ)
  (hv : ∀ (i : Fin 64) (l : Fin 512), v (ix3 0 i l) = at3 x1 0 (64 * k + i) l)
include hv

theorem tile1_max (l : Fin 512) : k1_pay8 v (ix2 0 l) = amax x1 0 k l := by
  rw [pay8_apply]; unfold amax colMax
  congr 1; funext i; rw [hv]

theorem tile1_quant (bs : BitVec 32)
    (hb : bs = (IntOp.addi (IntOp.muli (IntOp.addi (IntOp.muli (BitVec.ofNat 32 b) 1024#32) (BitVec.ofNat 32 (64 * k))) 18944#32)
        (IntOp.muli (BitVec.ofNat 32 j) 512#32)))
    (i : Fin 64) (l : Fin 512) :
    yQuant s bs v (ix2 i l) = qAt x1 (seeded s 18944 (b * 1024 + (64 * k + i)) (512 * j + l)) 0 (64 * k + i) l := by
  rw [yQuant_apply, hb, pos1, tile1_max x1 v k hv]
  unfold qAt seeded
  rw [show (64 * k + i.val) / 64 = k by omega]
  exact congrArg (fun e => quant (F := Ideal) e _ _) (hv i l)

theorem tile1_prod (bs : BitVec 32)
    (hb : bs = (IntOp.addi (IntOp.muli (IntOp.addi (IntOp.muli (BitVec.ofNat 32 b) 1024#32) (BitVec.ofNat 32 (64 * k))) 18944#32)
        (IntOp.muli (BitVec.ofNat 32 j) 512#32)))
    (i : Fin 64) (l : Fin 512) :
    yProd s bs v (ix2 i l) = pAt x1 (seeded s 18944 (b * 1024 + (64 * k + i)) (512 * j + l)) 0 (64 * k + i) l := by
  rw [yProd_apply, tile1_quant x1 v s b j k hv bs hb, tile1_max x1 v k hv]
  unfold pAt sAt
  rw [show (64 * k + i.val) / 64 = k by omega]
  rfl

end tile

/-- A tile read from the block: 64 rows from row `o1`. -/
theorem read1 (arg4 : Memref sig .tc .vmem S1x1024x512 .bf16) (x1 : Vec Ideal S1x1024x512 .bf16)
    (X : BufTy.Contents (Elt Ideal) arg4.view.ty) (hx : arg4.view.read (Elt Ideal) X = x1)
    (off : Fin 3 → ℕ) (o1 : ℕ) (ho : off = ![0, o1, 0]) (inb : ∀ a, off a + S1x64x512.size a ≤ S1x1024x512.size a)
    (i : Fin 64) (l : Fin 512) :
    View.readAt (Elt Ideal) arg4.view (Rect.unit (s := S1x1024x512) off S1x64x512.size inb).toLoadRect X (ix3 0 i l) = at3 x1 0 (o1 + i) l := by
  subst ho
  have h1 := inb 1
  change o1 + 64 ≤ 1024 at h1
  refine (congrFun (View.readAt_eq_ld ..) _).trans ?_
  rw [hx]
  have e := at3_ix3 x1 0 ⟨o1 + i, by omega⟩ l
  refine Eq.trans ?_ e.symm
  apply View.ld_unit_apply_of
  intro a
  match a with
  | ⟨0, _⟩ => rfl
  | ⟨1, _⟩ => rfl
  | ⟨2, _⟩ => exact (Nat.zero_add _).symm

/-! ## The stores of one trip -/

section trip
variable (𝒱 : Variants) (c : Dev nD) (bd : Option 𝒱.V) (i : grid1.Coords) (arg2 : Memref sig .tc .smem S2 .i32) (harg2 : arg2.IsWhole)
  (arg3 : Memref sig .tc .vmem S1x3584x1024 .bf16) (harg3 : arg3.IsWhole) (arg4 : Memref sig .tc .vmem S1x1024x512 .bf16) (harg4 : arg4.IsWhole)
  (arg5 : Memref sig .tc .vmem S1x1024x512 .i8) (harg5 : arg5.IsWhole) (arg6 : Memref sig .tc .vmem S1x16x512 .f32) (harg6 : arg6.IsWhole)
  (arg7 : Memref sig .tc .vmem S3584x512 .f32) (harg7 : arg7.IsWhole) (arg8 : Memref sig .tc .vmem S1024x512 .bf16) (harg8 : arg8.IsWhole)
  (arg0 arg1 : BitVec 32) (X_arg2 : BufTy.Contents (Elt Ideal) arg2.view.ty) (X_arg4 : BufTy.Contents (Elt Ideal) arg4.view.ty)
  (k : Fin k1_t1_loop.trips)
  (x1 : Vec Ideal S1x1024x512 .bf16) (s : BitVec 32) (b j : ℕ)
  (hx : arg4.view.read (Elt Ideal) X_arg4 = x1) (hs : trip_k1_t1.sl.r arg2 X_arg2 = s)
  (hb : arg1 = BitVec.ofNat 32 b) (hj : arg0 = BitVec.ofNat 32 j)
include hx hs hb hj

/-- Every code a trip stores is the code of the rounded value at its place. -/
theorem trip1_codes (o : Fin 1) (r : Fin 1024) (l : Fin 512) :
    View.AllAt (trip_k1_t1 (F := Ideal) 𝒱 c bd i arg2 harg2 arg3 harg3 arg4 harg4 arg5 harg5 arg6 harg6 arg7 harg7 arg8 harg8 arg0 arg1 X_arg2 X_arg4 k).1
      (ix3 o r l) (code (F := Ideal) (qAt x1 (seeded s 18944 (b * 1024 + r) (512 * j + l)) 0 r l)) := by
  subst hs
  unfold trip_k1_t1
  dsimp only
  refine View.allAt_cons_unit _ _ _ _ _ ?_ (View.allAt_nil _ _)
  intro x hx'
  obtain ⟨a, d, e, rfl⟩ : ∃ a d e, x = ix3 (n0 := 1) (n1 := 64) (n2 := 512) a d e := ⟨x 0, x 1, x 2, (ix3_eta x).symm⟩
  rw [k1_off1_val] at hx'
  have e1 : r.val = 64 * k.val + d.val := hx' 1
  have e2 : l.val = 0 + e.val := hx' 2
  have hr : code (F := Ideal) (qAt x1 (seeded (trip_k1_t1.sl.r arg2 X_arg2) 18944 (b * 1024 + r) (512 * j + l)) 0 r l)
      = code (F := Ideal) (qAt x1 (seeded (trip_k1_t1.sl.r arg2 X_arg2) 18944 (b * 1024 + (64 * k + d)) (512 * j + e)) 0 (64 * k + d) e) := by
    rw [e1, show l.val = e.val by omega]
  refine Eq.trans ?_ hr.symm
  refine (yCodes_apply _ _ _ a d e).trans (congrArg (code (F := Ideal)) (tile1_quant x1 _ _ b j k.val ?_ _ ?_ d e))
  · exact fun i l => read1 arg4 x1 X_arg4 hx _ _ (k1_off1_val k) _ i l
  · rw [← hb, ← hj, ← k1_row]; rfl

/-- Every scale a trip stores is the scale at its place. -/
theorem trip1_scales (o : Fin 1) (q : Fin 16) (l : Fin 512) :
    View.AllAt (trip_k1_t1 (F := Ideal) 𝒱 c bd i arg2 harg2 arg3 harg3 arg4 harg4 arg5 harg5 arg6 harg6 arg7 harg7 arg8 harg8 arg0 arg1 X_arg2 X_arg4 k).2.1
      (ix3 o q l) (sAt x1 0 q l : EReal) := by
  subst hs
  unfold trip_k1_t1
  dsimp only
  refine View.allAt_cons_unit _ _ _ _ _ ?_ (View.allAt_nil _ _)
  intro x hx'
  obtain ⟨a, d, e, rfl⟩ : ∃ a d e, x = ix3 (n0 := 1) (n1 := 1) (n2 := 512) a d e := ⟨x 0, x 1, x 2, (ix3_eta x).symm⟩
  rw [k1_off2_val] at hx'
  have e1 : q.val = k.val + d.val := hx' 1
  have e2 : l.val = 0 + e.val := hx' 2
  have hr : sAt x1 0 q l = sAt x1 0 k e := by
    rw [show q.val = k.val by omega, show l.val = e.val by omega]
  refine Eq.trans ?_ hr.symm
  refine (yScales_apply _ a d e).trans (congrArg (scale (F := Ideal)) (tile1_max x1 _ k.val ?_ e))
  exact fun i l => read1 arg4 x1 X_arg4 hx _ _ (k1_off1_val k) _ i l

/-- Every dequantised element a trip stores is the dequantised element at its place. -/
theorem trip1_prods (r : Fin 1024) (l : Fin 512) :
    View.AllAt (trip_k1_t1 (F := Ideal) 𝒱 c bd i arg2 harg2 arg3 harg3 arg4 harg4 arg5 harg5 arg6 harg6 arg7 harg7 arg8 harg8 arg0 arg1 X_arg2 X_arg4 k).2.2.1
      (ix2 r l) (pAt x1 (seeded s 18944 (b * 1024 + r) (512 * j + l)) 0 r l : EReal) := by
  subst hs
  unfold trip_k1_t1
  dsimp only
  refine View.allAt_cons_unit _ _ _ _ _ ?_ (View.allAt_nil _ _)
  intro x hx'
  obtain ⟨d, e, rfl⟩ : ∃ d e, x = ix2 (n0 := 64) (n1 := 512) d e := ⟨x 0, x 1, (ix2_eta x).symm⟩
  rw [k1_off3_val] at hx'
  have e1 : r.val = 64 * k.val + d.val := hx' 0
  have e2 : l.val = 0 + e.val := hx' 1
  have hr : pAt x1 (seeded (trip_k1_t1.sl.r arg2 X_arg2) 18944 (b * 1024 + r) (512 * j + l)) 0 r l
      = pAt x1 (seeded (trip_k1_t1.sl.r arg2 X_arg2) 18944 (b * 1024 + (64 * k + d)) (512 * j + e)) 0 (64 * k + d) e := by
    rw [e1, show l.val = e.val by omega]
  refine Eq.trans ?_ hr.symm
  refine (tile1_prod x1 _ _ b j k.val ?_ _ ?_ d e)
  · exact fun i l => read1 arg4 x1 X_arg4 hx _ _ (k1_off1_val k) _ i l
  · rw [← hb, ← hj, ← k1_row]; rfl

end trip

end Cert.KernelIdeal.Value

end
-- ==== Proof.Block1.lean ====
/- What one grid point of the second call leaves in its three output blocks, element by element: the codes and the scales
   of its block of the second array, and the product's block with the point's contribution added. -/
module

public import proofs.«01_k».proof.Proof.Trip1
public import proofs.«01_k».proof.Proof.Block0

@[expose] public section

set_option maxRecDepth 16384

noncomputable section

namespace Cert.KernelIdeal.Value

open Idealize.ShloMosaic Cert.KernelIdeal Cert.KernelIdeal.Gen Cert.Bfp

theorem k1_inb4_val : ∀ (k : Fin k1_t2_loop.trips) a, k1_off4 k a + S512x512.size a ≤ S3584x512.size a := by decide +kernel

/-- The zeros a block of the product starts from. -/
theorem zeros1 (x : S3584x512.Idx) : k1_pay5 (F := Ideal) x = (0 : EReal) := by
  have h : Ideal.ofBits .f32 0x00000000#32 = (0 : EReal) := by simp [Ideal.ofBits, Ideal.ieee]
  exact h

section loops
variable (𝒱 : Variants) (c : Dev nD) (bd : Option 𝒱.V) (i : grid1.Coords) (arg2 : Memref sig .tc .smem S2 .i32) (harg2 : arg2.IsWhole)
  (arg3 : Memref sig .tc .vmem S1x3584x1024 .bf16) (harg3 : arg3.IsWhole) (arg4 : Memref sig .tc .vmem S1x1024x512 .bf16) (harg4 : arg4.IsWhole)
  (arg5 : Memref sig .tc .vmem S1x1024x512 .i8) (harg5 : arg5.IsWhole) (arg6 : Memref sig .tc .vmem S1x16x512 .f32) (harg6 : arg6.IsWhole)
  (arg7 : Memref sig .tc .vmem S3584x512 .f32) (harg7 : arg7.IsWhole) (arg8 : Memref sig .tc .vmem S1024x512 .bf16) (harg8 : arg8.IsWhole)

/-- The stores of the first `n` quantising trips agree with the block's codes, scales and products. -/
theorem loop1 (arg0 arg1 : BitVec 32) (X_arg2 : BufTy.Contents (Elt Ideal) arg2.view.ty) (X_arg4 : BufTy.Contents (Elt Ideal) arg4.view.ty)
    (x1 : Vec Ideal S1x1024x512 .bf16) (s : BitVec 32) (b j : ℕ)
    (hx : arg4.view.read (Elt Ideal) X_arg4 = x1) (hs : trip_k1_t1.sl.r arg2 X_arg2 = s)
    (hb : arg1 = BitVec.ofNat 32 b) (hj : arg0 = BitVec.ofNat 32 j) : ∀ n ≤ k1_t1_loop.trips,
    (∀ (o : Fin 1) (r : Fin 1024) (l : Fin 512),
      View.AllAt (pb_k1_t1 (F := Ideal) 𝒱 c bd i arg2 harg2 arg3 harg3 arg4 harg4 arg5 harg5 arg6 harg6 arg7 harg7 arg8 harg8 arg0 arg1 X_arg2 X_arg4 n).1
        (ix3 o r l) (code (F := Ideal) (qAt x1 (seeded s 18944 (b * 1024 + r) (512 * j + l)) 0 r l)))
    ∧ (∀ (o : Fin 1) (q : Fin 16) (l : Fin 512),
      View.AllAt (pb_k1_t1 (F := Ideal) 𝒱 c bd i arg2 harg2 arg3 harg3 arg4 harg4 arg5 harg5 arg6 harg6 arg7 harg7 arg8 harg8 arg0 arg1 X_arg2 X_arg4 n).2.1
        (ix3 o q l) (sAt x1 0 q l : EReal))
    ∧ (∀ (r : Fin 1024) (l : Fin 512),
      View.AllAt (pb_k1_t1 (F := Ideal) 𝒱 c bd i arg2 harg2 arg3 harg3 arg4 harg4 arg5 harg5 arg6 harg6 arg7 harg7 arg8 harg8 arg0 arg1 X_arg2 X_arg4 n).2.2
        (ix2 r l) (pAt x1 (seeded s 18944 (b * 1024 + r) (512 * j + l)) 0 r l : EReal))
  | 0, _ => ⟨fun _ _ _ => View.allAt_nil _ _, fun _ _ _ => View.allAt_nil _ _, fun _ _ => View.allAt_nil _ _⟩
  | n + 1, hn => by
    obtain ⟨h1, h2, h3⟩ := loop1 arg0 arg1 X_arg2 X_arg4 x1 s b j hx hs hb hj n (by omega)
    have e := pb_k1_t1_succ (F := Ideal) 𝒱 c bd i arg2 harg2 arg3 harg3 arg4 harg4 arg5 harg5 arg6 harg6 arg7 harg7 arg8 harg8 arg0 arg1 X_arg2 X_arg4 ⟨n, hn⟩
    dsimp only at e
    rw [e]
    exact ⟨fun o r l => allAt_append (trip1_codes _ _ _ _ _ _ _ _ _ _ _ _ _ _ _ _ _ _ _ _ _ _ _ _ _ _ _ hx hs hb hj o r l) (h1 o r l),
      fun o q l => allAt_append (trip1_scales _ _ _ _ _ _ _ _ _ _ _ _ _ _ _ _ _ _ _ _ _ _ _ _ _ _ _ hx hs hb hj o q l) (h2 o q l),
      fun r l => allAt_append (trip1_prods _ _ _ _ _ _ _ _ _ _ _ _ _ _ _ _ _ _ _ _ _ _ _ _ _ _ _ hx hs hb hj r l) (h3 r l)⟩

/-- The stores of the first `n` trips of the product loop: they lie in the first `512 n` rows, fill those, and hold what
    the block held at the loop's start with the product of the two operands added. -/
theorem loop2 (X_arg3 : BufTy.Contents (Elt Ideal) arg3.view.ty) (X_arg8 : BufTy.Contents (Elt Ideal) arg8.view.ty)
    (G : BufTy.Contents (Elt Ideal) arg7.view.ty) : ∀ n ≤ k1_t2_loop.trips,
    (∀ (r : Fin 3584) (l : Fin 512),
      View.AllAt (pb_k1_t2 (F := Ideal) 𝒱 c bd i arg2 harg2 arg3 harg3 arg4 harg4 arg5 harg5 arg6 harg6 arg7 harg7 arg8 harg8 X_arg3 X_arg8 G n)
        (ix2 r l) ((arg7.view.read (Elt Ideal) G (ix2 r l) : EReal)
          + ∑ k : Fin 1024, (arg3.view.read (Elt Ideal) X_arg3 (ix3 0 r k) : EReal) * arg8.view.read (Elt Ideal) X_arg8 (ix2 k l) : EReal))
    ∧ (∀ y : S3584x512.Idx, (∃ p ∈ pb_k1_t2 (F := Ideal) 𝒱 c bd i arg2 harg2 arg3 harg3 arg4 harg4 arg5 harg5 arg6 harg6 arg7 harg7 arg8 harg8 X_arg3 X_arg8 G n, y ∈ p.1.set)
        ↔ (y 0).val < 512 * n)
  | 0, _ => ⟨fun _ _ => View.allAt_nil _ _, fun y => by simp [pb_k1_t2]⟩
  | n + 1, hn => by
    obtain ⟨h1, h2⟩ := loop2 X_arg3 X_arg8 G n (by omega)
    have e := pb_k1_t2_succ (F := Ideal) 𝒱 c bd i arg2 harg2 arg3 harg3 arg4 harg4 arg5 harg5 arg6 harg6 arg7 harg7 arg8 harg8 X_arg3 X_arg8 G ⟨n, hn⟩
    dsimp only at e
    rw [e]
    generalize pb_k1_t2 (F := Ideal) 𝒱 c bd i arg2 harg2 arg3 harg3 arg4 harg4 arg5 harg5 arg6 harg6 arg7 harg7 arg8 harg8 X_arg3 X_arg8 G n = P at h1 h2 ⊢
    unfold tripL_k1_t2 trip_k1_t2
    dsimp only
    refine ⟨fun r l => allAt_append (View.allAt_cons_unit _ _ _ _ _ ?_ (View.allAt_nil _ _)) (h1 r l), fun y => ?_⟩
    · intro x hx'
      obtain ⟨d, e, rfl⟩ : ∃ d e, x = ix2 (n0 := 512) (n1 := 512) d e := ⟨x 0, x 1, (ix2_eta x).symm⟩
      rw [k1_off4_val] at hx'
      have e1 : r.val = 512 * n + d.val := hx' 0
      have e2 : l.val = 0 + e.val := hx' 1
      obtain rfl : l = e := Fin.ext (by omega)
      refine (pay6_apply _ _ _ d l).trans ?_
      congr 1
      · refine (congrFun (View.readAt_eq_ld ..) _).trans ?_
        refine (View.ld_unit_apply_of _ _ _ _ _ (ix2 r l) (fun a => ?_)).trans ?_
        · refine Eq.trans ?_ (congrArg (· + (ix2 d l a).val) (congrFun (k1_off4_val ⟨n, hn⟩) a).symm)
          match a with
          | ⟨0, _⟩ => exact e1
          | ⟨1, _⟩ => exact e2
        · refine View.read_writes_apply_of_forall_not_mem _ _ _ _ fun p hp hy => ?_
          have := (h2 (ix2 r l)).mp ⟨p, hp, hy⟩
          change r.val < _ at this
          omega
      · refine Finset.sum_congr rfl fun k _ => ?_
        congr 1
        · refine (congrFun (View.readAt_eq_ld ..) _).trans ?_
          refine View.ld_unit_apply_of _ _ _ _ _ (ix3 0 r k) (fun a => ?_)
          refine Eq.trans ?_ (congrArg (· + (ix3 0 d k a).val) (congrFun (k1_off5_val ⟨n, hn⟩) a).symm)
          match a with
          | ⟨0, _⟩ => rfl
          | ⟨1, _⟩ => exact e1
          | ⟨2, _⟩ => exact (Nat.zero_add _).symm
        · refine (congrFun (View.readAt_eq_ld ..) _).trans ?_
          refine View.ld_unit_apply_of _ _ _ _ _ (ix2 k l) (fun a => ?_)
          match a with
          | ⟨0, _⟩ => exact (Nat.zero_add _).symm
          | ⟨1, _⟩ => exact (Nat.zero_add _).symm
    · have hm : ∀ (inb : ∀ a, k1_off4 ⟨n, hn⟩ a + S512x512.size a ≤ S3584x512.size a),
          y ∈ (Rect.unit (s := S3584x512) (k1_off4 ⟨n, hn⟩) S512x512.size inb).set ↔ 512 * n ≤ (y 0).val ∧ (y 0).val < 512 * (n + 1) := by
        intro inb
        rw [Rect.mem_set_unit]
        constructor
        · intro h
          have := h 0
          rw [k1_off4_val] at this
          exact ⟨this.1, by have := this.2; change (y 0).val < 512 * n + 512 at this; omega⟩
        · intro h a
          rw [k1_off4_val]
          match a with
          | ⟨0, _⟩ => exact ⟨h.1, by change (y 0).val < 512 * n + 512; omega⟩
          | ⟨1, _⟩ => exact ⟨Nat.zero_le _, by change (y 1).val < 0 + 512; have := (y 1).isLt; change (y 1).val < 512 at this; omega⟩
      constructor
      · rintro ⟨p, hp, hy⟩
        rcases List.mem_append.mp hp with hp | hp
        · obtain rfl := List.mem_singleton.mp hp
          exact ((hm (k1_inb4_val _)).mp hy).2
        · have := (h2 y).mp ⟨p, hp, hy⟩
          omega
      · intro h
        by_cases h' : (y 0).val < 512 * n
        · obtain ⟨p, hp, hy⟩ := (h2 y).mpr h'
          exact ⟨p, List.mem_append_right _ hp, hy⟩
        · exact ⟨_, List.mem_append_left _ (List.mem_singleton.mpr rfl), (hm (k1_inb4_val _)).mpr ⟨by omega, h⟩⟩

end loops

/-! ## The three blocks -/

section block
variable (c : Dev nD) (i : grid1.Coords) (arg2 : Memref sig .tc .smem S2 .i32) (harg2 : arg2.IsWhole)
  (arg3 : Memref sig .tc .vmem S1x3584x1024 .bf16) (harg3 : arg3.IsWhole) (arg4 : Memref sig .tc .vmem S1x1024x512 .bf16) (harg4 : arg4.IsWhole)
  (arg5 : Memref sig .tc .vmem S1x1024x512 .i8) (harg5 : arg5.IsWhole) (arg6 : Memref sig .tc .vmem S1x16x512 .f32) (harg6 : arg6.IsWhole)
  (arg7 : Memref sig .tc .vmem S3584x512 .f32) (harg7 : arg7.IsWhole) (arg8 : Memref sig .tc .vmem S1024x512 .bf16) (harg8 : arg8.IsWhole)
  (x0 : Vec Ideal S2 .i32) (x1 : Vec Ideal S1x3584x1024 .bf16) (x2 : Vec Ideal S1x1024x512 .bf16)

/-- The second seed as a trip reads it. -/
theorem seed1 : trip_k1_t1.sl.r (F := Ideal) arg2 (harg2.unread x0) = x0 (ix1 1) := by
  refine (congrFun (View.readAt_eq_ld ..) _).trans ?_
  rw [harg2.read_unread]
  exact View.ld_unit_apply_of _ _ _ _ _ _ (fun a => by match a with | ⟨0, _⟩ => rfl)

/-- What the scratch buffer holds after the quantising loop: the block's dequantised elements. -/
theorem scratch1 (r : Fin 1024) (l : Fin 512) :
    arg8.view.read (Elt Ideal) (arg8.view.writes (Elt Ideal) arg8.view.junk
      (pb_k1_t1 (F := Ideal) Variants.none c none i arg2 harg2 arg3 harg3 arg4 harg4 arg5 harg5 arg6 harg6 arg7 harg7 arg8 harg8
        (BitVec.ofNat 32 (i 0).val) (BitVec.ofNat 32 (i 1).val) (harg2.unread x0) (harg4.unread x2)
        (Scf.trips k1_t1_loop.lb k1_t1_loop.ub k1_t1_loop.st)).2.2) (ix2 r l)
      = (pAt x2 (seeded (x0 (ix1 1)) 18944 ((i 1).val * 1024 + r) (512 * (i 0).val + l)) 0 r l : EReal) :=
  read_writes_of_allAt _ _
    (View.cover_of_tiledL (pb_k1_t1 (F := Ideal) Variants.none c none i arg2 harg2 arg3 harg3 arg4 harg4 arg5 harg5 arg6 harg6 arg7 harg7 arg8 harg8
        (BitVec.ofNat 32 (i 0).val) (BitVec.ofNat 32 (i 1).val) (harg2.unread x0) (harg4.unread x2)
        (Scf.trips k1_t1_loop.lb k1_t1_loop.ub k1_t1_loop.st)).2.2 S64x512.size (by sl_kernel_rfl) _)
    ((loop1 _ c _ i arg2 harg2 arg3 harg3 arg4 harg4 arg5 harg5 arg6 harg6 arg7 harg7 arg8 harg8 _ _ _ _ x2 _ _ _
      (harg4.read_unread x2) (seed1 arg2 harg2 x0) rfl rfl _ le_rfl).2.2 r l)

/-- The product loop's stores over any contents: what the block held with the product added. -/
theorem product1 (v : View sig .tc .vmem S3584x512 .f32) (f : v.ty.Contents (Elt Ideal)) (G : BufTy.Contents (Elt Ideal) arg7.view.ty)
    (r : Fin 3584) (l : Fin 512) :
    v.read (Elt Ideal) (v.writes (Elt Ideal) f
      (pb_k1_t2 (F := Ideal) Variants.none c none i arg2 harg2 arg3 harg3 arg4 harg4 arg5 harg5 arg6 harg6 arg7 harg7 arg8 harg8
        (harg3.unread x1) (arg8.view.writes (Elt Ideal) arg8.view.junk
      (pb_k1_t1 (F := Ideal) Variants.none c none i arg2 harg2 arg3 harg3 arg4 harg4 arg5 harg5 arg6 harg6 arg7 harg7 arg8 harg8
        (BitVec.ofNat 32 (i 0).val) (BitVec.ofNat 32 (i 1).val) (harg2.unread x0) (harg4.unread x2)
        (Scf.trips k1_t1_loop.lb k1_t1_loop.ub k1_t1_loop.st)).2.2) G (Scf.trips k1_t2_loop.lb k1_t2_loop.ub k1_t2_loop.st))) (ix2 r l)
      = (arg7.view.read (Elt Ideal) G (ix2 r l) : EReal) + ∑ k : Fin 1024, (x1 (ix3 0 r k) : EReal)
          * pAt x2 (seeded (x0 (ix1 1)) 18944 ((i 1).val * 1024 + k) (512 * (i 0).val + l)) 0 k l := by
  obtain ⟨h1, h2⟩ := loop2 Variants.none c none i arg2 harg2 arg3 harg3 arg4 harg4 arg5 harg5 arg6 harg6 arg7 harg7 arg8 harg8
    (harg3.unread x1) (arg8.view.writes (Elt Ideal) arg8.view.junk
      (pb_k1_t1 (F := Ideal) Variants.none c none i arg2 harg2 arg3 harg3 arg4 harg4 arg5 harg5 arg6 harg6 arg7 harg7 arg8 harg8
        (BitVec.ofNat 32 (i 0).val) (BitVec.ofNat 32 (i 1).val) (harg2.unread x0) (harg4.unread x2)
        (Scf.trips k1_t1_loop.lb k1_t1_loop.ub k1_t1_loop.st)).2.2) G k1_t2_loop.trips le_rfl
  refine (read_writes_of_allAt v f ((h2 _).mpr ?_) (h1 r l)).trans ?_
  · rw [k1_trips2]; exact r.isLt
  · refine congrArg (_ + ·) (Finset.sum_congr rfl fun k _ => ?_)
    rw [harg3.read_unread]
    exact congrArg (_ * ·) (scratch1 c i arg2 harg2 arg3 harg3 arg4 harg4 arg5 harg5 arg6 harg6 arg7 harg7 arg8 harg8 x0 x2 k l)

section caseA
variable (hc0 : cond1_0 i)
include hc0

/-- The block of codes, the first of a block of the product. -/
theorem block1A_codes (o : Fin 1) (r : Fin 1024) (l : Fin 512) :
    out1_A_3 c i arg2 harg2 arg3 harg3 arg4 harg4 arg5 harg5 arg6 harg6 arg7 harg7 arg8 harg8 hc0 x0 x1 x2 (ix3 o r l)
      = code (F := Ideal) (qAt x2 (seeded (x0 (ix1 1)) 18944 ((i 1).val * 1024 + r) (512 * (i 0).val + l)) 0 r l) :=
  read_writes_of_allAt _ _ (cover1_A_3 ..)
    ((loop1 _ c _ i arg2 harg2 arg3 harg3 arg4 harg4 arg5 harg5 arg6 harg6 arg7 harg7 arg8 harg8 _ _ _ _ x2 _ _ _
      (harg4.read_unread x2) (seed1 arg2 harg2 x0) rfl rfl _ le_rfl).1 o r l)

/-- The block of scales. -/
theorem block1A_scales (o : Fin 1) (q : Fin 16) (l : Fin 512) :
    out1_A_4 c i arg2 harg2 arg3 harg3 arg4 harg4 arg5 harg5 arg6 harg6 arg7 harg7 arg8 harg8 hc0 x0 x1 x2 (ix3 o q l) = (sAt x2 0 q l : EReal) :=
  read_writes_of_allAt _ _ (cover1_A_4 ..)
    ((loop1 _ c _ i arg2 harg2 arg3 harg3 arg4 harg4 arg5 harg5 arg6 harg6 arg7 harg7 arg8 harg8 _ _ _ _ x2 _ _ _
      (harg4.read_unread x2) (seed1 arg2 harg2 x0) rfl rfl _ le_rfl).2.1 o q l)

/-- The product's block after its first point: the point's contribution. -/
theorem block1A_product (r : Fin 3584) (l : Fin 512) :
    out1_A_5 c i arg2 harg2 arg3 harg3 arg4 harg4 arg5 harg5 arg6 harg6 arg7 harg7 arg8 harg8 hc0 x0 x1 x2 (ix2 r l)
      = (∑ k : Fin 1024, (x1 (ix3 0 r k) : EReal)
          * pAt x2 (seeded (x0 (ix1 1)) 18944 ((i 1).val * 1024 + k) (512 * (i 0).val + l)) 0 k l : EReal) := by
  refine (congrFun (congrArg (View.read (Elt Ideal) VO1_5) (View.writes_append ..)) (ix2 r l)).trans ?_
  refine (product1 c i arg2 harg2 arg3 harg3 arg4 harg4 arg5 harg5 arg6 harg6 arg7 harg7 arg8 harg8 x0 x1 x2 VO1_5 _ _ r l).trans ?_
  refine Eq.trans (congrArg (· + _) ?_) (zero_add _)
  unfold kernelRun1_A.sl.H5_1
  have h : View.AllAt [(⟨Rect.unit (s := S3584x512) ![0, 0] S3584x512.size inb_S3584x512_S3584x512_0_0, k1_pay5 (F := Ideal)⟩
      : View.Piece (Elt Ideal) S3584x512 .f32)] (ix2 r l) (0 : EReal) :=
    View.allAt_cons_unit _ _ _ _ _ (fun x _ => zeros1 x) (View.allAt_nil _ _)
  refine read_writes_of_allAt _ _ ⟨_, List.mem_singleton.mpr rfl, ?_⟩ h
  change ix2 r l ∈ (Rect.unit (s := S3584x512) ![0, 0] S3584x512.size inb_S3584x512_S3584x512_0_0).set
  rw [Rect.mem_set_unit]
  intro a
  match a with
  | ⟨0, _⟩ => exact ⟨Nat.zero_le _, by change r.val < 0 + 3584; omega⟩
  | ⟨1, _⟩ => exact ⟨Nat.zero_le _, by change l.val < 0 + 512; omega⟩

end caseA

section caseB
variable (hc0 : ¬cond1_0 i) (xo5 : Vec Ideal S3584x512 .f32)
include hc0

/-- The block of codes. -/
theorem block1B_codes (o : Fin 1) (r : Fin 1024) (l : Fin 512) :
    out1_B_3 c i arg2 harg2 arg3 harg3 arg4 harg4 arg5 harg5 arg6 harg6 arg7 harg7 arg8 harg8 hc0 x0 x1 x2 xo5 (ix3 o r l)
      = code (F := Ideal) (qAt x2 (seeded (x0 (ix1 1)) 18944 ((i 1).val * 1024 + r) (512 * (i 0).val + l)) 0 r l) :=
  read_writes_of_allAt _ _ (cover1_B_3 ..)
    ((loop1 _ c _ i arg2 harg2 arg3 harg3 arg4 harg4 arg5 harg5 arg6 harg6 arg7 harg7 arg8 harg8 _ _ _ _ x2 _ _ _
      (harg4.read_unread x2) (seed1 arg2 harg2 x0) rfl rfl _ le_rfl).1 o r l)

/-- The block of scales. -/
theorem block1B_scales (o : Fin 1) (q : Fin 16) (l : Fin 512) :
    out1_B_4 c i arg2 harg2 arg3 harg3 arg4 harg4 arg5 harg5 arg6 harg6 arg7 harg7 arg8 harg8 hc0 x0 x1 x2 xo5 (ix3 o q l) = (sAt x2 0 q l : EReal) :=
  read_writes_of_allAt _ _ (cover1_B_4 ..)
    ((loop1 _ c _ i arg2 harg2 arg3 harg3 arg4 harg4 arg5 harg5 arg6 harg6 arg7 harg7 arg8 harg8 _ _ _ _ x2 _ _ _
      (harg4.read_unread x2) (seed1 arg2 harg2 x0) rfl rfl _ le_rfl).2.1 o q l)

/-- The product's block after a later point: what it held with the point's contribution added. -/
theorem block1B_product (r : Fin 3584) (l : Fin 512) :
    out1_B_5 c i arg2 harg2 arg3 harg3 arg4 harg4 arg5 harg5 arg6 harg6 arg7 harg7 arg8 harg8 hc0 x0 x1 x2 xo5 (ix2 r l)
      = (xo5 (ix2 r l) : EReal) + ∑ k : Fin 1024, (x1 (ix3 0 r k) : EReal)
          * pAt x2 (seeded (x0 (ix1 1)) 18944 ((i 1).val * 1024 + k) (512 * (i 0).val + l)) 0 k l := by
  refine (product1 c i arg2 harg2 arg3 harg3 arg4 harg4 arg5 harg5 arg6 harg6 arg7 harg7 arg8 harg8 x0 x1 x2 VO1_5 _ _ r l).trans ?_
  rw [harg7.read_unread]

end caseB

end block

end Cert.KernelIdeal.Value

end
-- ==== Proof.Array1.lean ====
/- What the second call leaves in its three output arrays, as functions of the array it quantises, of its seed and of the
   transposed products that it takes as its other operand. -/
module

public import proofs.«01_k».proof.Proof.Block1
public import proofs.«01_k».proof.Proof.Blocks
public import Idealize.ShloMosaic.Lib.Pipeline.ValueKit

@[expose] public section

set_option maxRecDepth 16384

noncomputable section

namespace Cert.KernelIdeal.Value

open Idealize.ShloMosaic Cert.KernelIdeal Cert.KernelIdeal.Gen Cert.Bfp

/-- The windows' block indices at a point. -/
theorem index1_0 : ∀ t : Fin cfg1.N, win1_0.index t = ![0] := (by decide +kernel : ∀ t : Fin grid1.N, _)
theorem index1_1 : ∀ t : Fin cfg1.N, win1_1.index t = ![(grid1.coords t 1).val, 0, 0] :=
  (by decide +kernel : ∀ t : Fin grid1.N, _)
theorem index1_2 : ∀ t : Fin cfg1.N, win1_2.index t = ![(grid1.coords t 1).val, 0, (grid1.coords t 0).val] :=
  (by decide +kernel : ∀ t : Fin grid1.N, _)
theorem index1_3 : ∀ t : Fin cfg1.N, win1_3.index t = ![(grid1.coords t 1).val, 0, (grid1.coords t 0).val] :=
  (by decide +kernel : ∀ t : Fin grid1.N, _)
theorem index1_4 : ∀ t : Fin cfg1.N, win1_4.index t = ![(grid1.coords t 1).val, 0, (grid1.coords t 0).val] :=
  (by decide +kernel : ∀ t : Fin grid1.N, _)
theorem index1_5 : ∀ t : Fin cfg1.N, win1_5.index t = ![0, (grid1.coords t 0).val] :=
  (by decide +kernel : ∀ t : Fin grid1.N, _)

/-- A point's coordinates: 37 blocks of columns, 12 slabs each. -/
theorem coord1_0 (t : Fin cfg1.N) : (grid1.coords t 0).val = t.val / 12 := by
  have e : (grid1.coords t 0).val = t.val / 12 % 37 := Pipeline.Grid.coords_val t 0 (by decide) rfl
  have ht : t.val < 444 := Nat.lt_of_lt_of_eq t.isLt N_1
  omega
theorem coord1_1 (t : Fin cfg1.N) : (grid1.coords t 1).val = t.val % 12 := by
  have e : (grid1.coords t 1).val = t.val / 1 % 12 := Pipeline.Grid.coords_val t 1 (by decide) rfl
  omega

variable (V : (c : Dev nD) → (b : Ref sig .tc) → Buf (Elt Ideal) ((c.tc : Thread nD τ).loc b)) (c : Dev nD) (t : Fin cfg1.N)

/-- The array that is quantised. -/
abbrev arr1 : S12x1024x18944.Idx → EReal := V c main_arg1
/-- The other operand of the product. -/
abbrev left1 : S12x3584x1024.Idx → EReal := V c main_v1_2
/-- The two seeds. -/
abbrev seeds1 : S2.Idx → BitVec 32 := V c main_v0

theorem seedBlk1 : (iblk1 V c 0 t : S2.Idx → BitVec 32) = seeds1 V c := by
  funext y
  blk_simp [iblk1]
  congr 1
  blk_ext [index1_0]

theorem leftBlk1 (o : Fin 1) (r : Fin 3584) (k : Fin 1024) :
    (iblk1 V c 1 t : S1x3584x1024.Idx → EReal) (ix3 o r k) = at3 (left1 V c) (grid1.coords t 1).val r k := by
  have h1 : (grid1.coords t 1).val < 12 := (grid1.coords t 1).2
  refine Eq.trans ?_ (at3_ix3 (left1 V c) ⟨(grid1.coords t 1).val, h1⟩ r k).symm
  blk_simp [iblk1]
  congr 1
  blk_ext [index1_1]

theorem inBlk1 (o : Fin 1) (r : Fin 1024) (l : Fin 512) :
    (iblk1 V c 2 t : S1x1024x512.Idx → EReal) (ix3 o r l)
      = at3 (arr1 V c) (grid1.coords t 1).val (64 * 0 + r) (512 * (grid1.coords t 0).val + l) := by
  have h0 : (grid1.coords t 0).val < 37 := (grid1.coords t 0).2
  have h1 : (grid1.coords t 1).val < 12 := (grid1.coords t 1).2
  refine Eq.trans ?_ (at3_ix3 (arr1 V c) ⟨(grid1.coords t 1).val, h1⟩ ⟨64 * 0 + r, by omega⟩
    ⟨512 * (grid1.coords t 0).val + l, by omega⟩).symm
  blk_simp [iblk1]
  congr 1
  blk_ext [index1_2]

theorem inBlk1_at (l : Fin 512) : ∀ s < 64 * 16, at3 (iblk1 V c 2 t : S1x1024x512.Idx → EReal) 0 s l
      = at3 (arr1 V c) (grid1.coords t 1).val (64 * 0 + s) (512 * (grid1.coords t 0).val + l) := fun s hs =>
  (at3_ix3 (iblk1 V c 2 t : S1x1024x512.Idx → EReal) 0 ⟨s, hs⟩ l).trans (inBlk1 V c t 0 ⟨s, hs⟩ l)

/-- What every point leaves in its block of codes. -/
theorem codesBlk1 (o : Fin 1) (r : Fin 1024) (l : Fin 512) : (outsAt1 V c t.val t.isLt).1 (ix3 o r l)
    = code (F := Ideal) (qAt (iblk1 V c 2 t : S1x1024x512.Idx → EReal) (seeded ((iblk1 V c 0 t : S2.Idx → BitVec 32) (ix1 1)) 18944
        ((grid1.coords t 1).val * 1024 + r) (512 * (grid1.coords t 0).val + l)) 0 r l) := by
  by_cases h0 : t.val % 12 = 0
  · rw [outsAt1_A V c t h0]
    exact block1A_codes c (grid1.coords t) _ _ _ _ _ _ _ _ _ _ _ _ _ _ (iblk1 V c 0 t) (iblk1 V c 1 t) (iblk1 V c 2 t) _ o r l
  · rw [outsAt1_B V c t h0]
    exact block1B_codes c (grid1.coords t) _ _ _ _ _ _ _ _ _ _ _ _ _ _ (iblk1 V c 0 t) (iblk1 V c 1 t) (iblk1 V c 2 t) _ _ o r l

/-- What every point leaves in its block of scales. -/
theorem scalesBlk1 (o : Fin 1) (q : Fin 16) (l : Fin 512) : (outsAt1 V c t.val t.isLt).2.1 (ix3 o q l)
    = (sAt (iblk1 V c 2 t : S1x1024x512.Idx → EReal) 0 q l : EReal) := by
  by_cases h0 : t.val % 12 = 0
  · rw [outsAt1_A V c t h0]
    exact block1A_scales c (grid1.coords t) _ _ _ _ _ _ _ _ _ _ _ _ _ _ (iblk1 V c 0 t) (iblk1 V c 1 t) (iblk1 V c 2 t) _ o q l
  · rw [outsAt1_B V c t h0]
    exact block1B_scales c (grid1.coords t) _ _ _ _ _ _ _ _ _ _ _ _ _ _ (iblk1 V c 0 t) (iblk1 V c 1 t) (iblk1 V c 2 t) _ _ o q l

/-- One slab's contribution to the product. -/
def slab (A : S12x3584x1024.Idx → EReal) (X : S12x1024x18944.Idx → EReal) (w : BitVec 32) (b r n : ℕ) : EReal :=
  ∑ k : Fin 1024, at3 A b r k * deq X w b k n

/-- The point's contribution, over the whole arrays. -/
theorem slab_point (r : Fin 3584) (l : Fin 512) :
    (∑ k : Fin 1024, (show EReal from (iblk1 V c 1 t : S1x3584x1024.Idx → EReal) (ix3 0 r k))
        * pAt (iblk1 V c 2 t : S1x1024x512.Idx → EReal) (seeded ((iblk1 V c 0 t : S2.Idx → BitVec 32) (ix1 1)) 18944
          ((grid1.coords t 1).val * 1024 + k) (512 * (grid1.coords t 0).val + l)) 0 k l)
      = slab (left1 V c) (arr1 V c) (seeds1 V c (ix1 1)) (t.val % 12) r (512 * (t.val / 12) + l) := by
  unfold slab
  refine Finset.sum_congr rfl fun k _ => ?_
  rw [leftBlk1, pAt_block (n := 16) (inBlk1_at V c t l) _ k.2, seedBlk1 V c t, coord1_0, coord1_1, Nat.mul_zero, Nat.zero_add]
  rfl

/-- The product's block after point `t`: the contributions of the slabs so far. -/
theorem product_upto (r : Fin 3584) (l : Fin 512) : ∀ (n : ℕ) (hn : n < cfg1.N), (outsAt1 V c n hn).2.2 (ix2 r l)
    = (∑ b ∈ Finset.range (n % 12 + 1), slab (left1 V c) (arr1 V c) (seeds1 V c (ix1 1)) b r (512 * (n / 12) + l) : EReal) := by
  intro n
  induction n using Nat.strong_induction_on with
  | _ n ih =>
    intro hn
    by_cases h0 : n % 12 = 0
    · rw [outsAt1_A V c ⟨n, hn⟩ h0]
      refine (block1A_product c (grid1.coords ⟨n, hn⟩) _ _ _ _ _ _ _ _ _ _ _ _ _ _ (iblk1 V c 0 ⟨n, hn⟩) (iblk1 V c 1 ⟨n, hn⟩)
        (iblk1 V c 2 ⟨n, hn⟩) _ r l).trans ((slab_point V c ⟨n, hn⟩ r l).trans ?_)
      rw [h0, Finset.sum_range_one]
    · have hlt : n - 1 < n := by omega
      rw [outsAt1_B V c ⟨n, hn⟩ h0]
      refine (block1B_product c (grid1.coords ⟨n, hn⟩) _ _ _ _ _ _ _ _ _ _ _ _ _ _ (iblk1 V c 0 ⟨n, hn⟩) (iblk1 V c 1 ⟨n, hn⟩)
        (iblk1 V c 2 ⟨n, hn⟩) _ _ r l).trans ?_
      refine (congrArg₂ (· + ·) (ih (n - 1) hlt (lt_trans hlt hn)) (slab_point V c ⟨n, hn⟩ r l)).trans ?_
      rw [show (n - 1) % 12 + 1 = n % 12 by omega, show (n - 1) / 12 = n / 12 by omega]
      exact (Finset.sum_range_succ _ _).symm

/-- The array of codes after the second call. -/
theorem codes1 : ((dat1 V c).arrAt 3 cfg1.N : S12x1024x18944.Idx → BitVec 8) = codesOf (arr1 V c) (seeds1 V c (ix1 1)) := by
  refine (dat1 V c).arrAt_eq_of_covers 3 _ (by decide +kernel) fun t hf y => ?_
  blk_simp
  rw [after1_3]
  refine (congrArg (outsAt1 V c t.val t.isLt).1 (ix3_eta y).symm).trans ?_
  refine (codesBlk1 V c t _ _ _).trans ?_
  rw [qAt_block (n := 16) (inBlk1_at V c t (y 2)) _ (y 1).2, seedBlk1 V c t]
  unfold codesOf pos
  have e0 : ((((win1_3.blk t).view.emb y) 0 : Fin _) : ℕ) = (grid1.coords t 1).val := by
    blk_simp [index1_3]; all_goals (idx_bounds y; omega)
  have e1 : ((((win1_3.blk t).view.emb y) 1 : Fin _) : ℕ) = y 1 := by
    blk_simp [index1_3]; all_goals (idx_bounds y; omega)
  have e2 : ((((win1_3.blk t).view.emb y) 2 : Fin _) : ℕ) = 512 * (grid1.coords t 0).val + y 2 := by
    blk_simp [index1_3]; all_goals (idx_bounds y; omega)
  rw [e0, e1, e2, Nat.mul_zero, Nat.zero_add]

/-- The array of scales after the second call. -/
theorem scales1 : ((dat1 V c).arrAt 4 cfg1.N : S12x16x18944.Idx → EReal) = scalesOf (arr1 V c) 16 := by
  refine (dat1 V c).arrAt_eq_of_covers 4 _ (by decide +kernel) fun t hf y => ?_
  blk_simp
  rw [after1_4]
  refine (congrArg (outsAt1 V c t.val t.isLt).2.1 (ix3_eta y).symm).trans ?_
  refine (scalesBlk1 V c t _ _ _).trans ?_
  rw [sAt_block (n := 16) (inBlk1_at V c t (y 2)) (y 1).2]
  unfold scalesOf
  have e0 : ((((win1_4.blk t).view.emb y) 0 : Fin _) : ℕ) = (grid1.coords t 1).val := by
    blk_simp [index1_4]; all_goals (idx_bounds y; omega)
  have e1 : ((((win1_4.blk t).view.emb y) 1 : Fin _) : ℕ) = y 1 := by
    blk_simp [index1_4]; all_goals (idx_bounds y; omega)
  have e2 : ((((win1_4.blk t).view.emb y) 2 : Fin _) : ℕ) = 512 * (grid1.coords t 0).val + y 2 := by
    blk_simp [index1_4]; all_goals (idx_bounds y; omega)
  rw [e0, e1, e2, Nat.zero_add]

/-- The product of the two dequantised arrays, slab by slab. -/
def prodOf (A : S12x3584x1024.Idx → EReal) (X : S12x1024x18944.Idx → EReal) (w : BitVec 32) : S3584x18944.Idx → EReal :=
  fun i => ∑ b ∈ Finset.range 12, slab A X w b (i 0).val (i 1).val

/-- The product's array after the second call. -/
theorem product1_array : ((dat1 V c).arrAt 5 cfg1.N : S3584x18944.Idx → EReal)
    = prodOf (left1 V c) (arr1 V c) (seeds1 V c (ix1 1)) := by
  refine (dat1 V c).arrAt_eq_of_covers 5 _ (by decide +kernel) fun t hf y => ?_
  have h11 : t.val % 12 = 11 := (flush1_5 t).mp hf
  blk_simp
  rw [after1_5]
  refine (congrArg (outsAt1 V c t.val t.isLt).2.2 (ix2_eta y).symm).trans ?_
  refine (product_upto V c _ _ _ _).trans ?_
  unfold prodOf
  have e0 : ((((win1_5.blk t).view.emb y) 0 : Fin _) : ℕ) = y 0 := by
    blk_simp [index1_5]; all_goals (idx_bounds y; omega)
  have e1 : ((((win1_5.blk t).view.emb y) 1 : Fin _) : ℕ) = 512 * (grid1.coords t 0).val + y 1 := by
    blk_simp [index1_5]; all_goals (idx_bounds y; omega)
  rw [e0, e1, h11, coord1_0]

end Cert.KernelIdeal.Value

end
-- ==== Proof.KernelRun.lean ====
/- The ideal kernel's run with its five results: each result array as a function of the arguments. The launch is that of
   the frame; what it leaves in the result arrays is read off the two calls' arrays. -/
module

public import proofs.«01_k».proof.Proof.Array0
public import proofs.«01_k».proof.Proof.Array1

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bfp

local notation "𝕄" => MT nD τ sig Unit (Elt Ideal) ℕ (UR sig nD τ) ℕ

variable (m : (ℓ : Loc nD τ sig) → Buf (Elt Ideal) ℓ) (ρ : Dev nD → PrngReg)

section boundary
variable (c : Dev nD)

/-- The arguments. -/
abbrev argX : S12x1024x3584.Idx → EReal := m ((c.tc : Thread nD τ).loc main_arg0)
abbrev argDy : S12x1024x18944.Idx → EReal := m ((c.tc : Thread nD τ).loc main_arg1)
abbrev argSeeds : S2.Idx → BitVec 32 := m ((c.tc : Thread nD τ).loc main_arg2)

/-- What the calls are entered with. -/
theorem V1_arg0 : V1 m ρ c main_arg0 = m ((c.tc : Thread nD τ).loc main_arg0) := W1_args m ρ c main_arg0 (by decide)
theorem V3_arg1 : V3 m ρ c main_arg1 = m ((c.tc : Thread nD τ).loc main_arg1) := W3_args m ρ c main_arg1 (by decide)
theorem V1_seeds : (V1 m ρ c main_v0 : S2.Idx → BitVec 32) = argSeeds m c := by
  show StableHlo.after hostOps0 (W0 m ρ c) (Proc.devRef .tc main_v0) = _
  simp only [hostOps0, StableHlo.after_cons, StableHlo.after_nil]
  exact StableHlo.unary_result ..
theorem V3_seeds : (V3 m ρ c main_v0 : S2.Idx → BitVec 32) = argSeeds m c :=
  ((W3_of m ρ c main_v0 (by decide)).trans (W2_of m ρ c main_v0 (by decide))).trans (V1_seeds m ρ c)

/-- The codes of the first array. -/
theorem W4_xcodes : (W4 m ρ c (Proc.devRef .tc main_v1_0) : S12x1024x3584.Idx → BitVec 8)
    = codesOf (argX m c) (argSeeds m c (ix1 0)) := by
  refine ((W4_of m ρ c main_v1_0 (by decide)).trans ((W3_of m ρ c main_v1_0 (by decide)).trans (W2_arr m ρ c 2))).trans ?_
  refine (codes0 (V1 m ρ) c).trans ?_
  unfold arr0 seeds
  rw [V1_seeds m ρ c, V1_arg0 m ρ c]

/-- The transposed products of the first array, as the second call is entered with them. -/
theorem V3_prods : (V3 m ρ c main_v1_2 : S12x3584x1024.Idx → EReal) = deqT (argX m c) (argSeeds m c (ix1 0)) := by
  refine ((W3_of m ρ c main_v1_2 (by decide)).trans (W2_arr m ρ c 4)).trans ?_
  refine (prods0 (V1 m ρ) c).trans ?_
  unfold arr0 seeds
  rw [V1_seeds m ρ c, V1_arg0 m ρ c]

/-- Two blocks of scales a step are sixteen a slab. -/
theorem scales4_reshape (X : S12x1024x3584.Idx → EReal) (h : S12x8x2x3584.ShapeCasts S12x16x3584) :
    shapeCast S12x16x3584 (scales4Of X 8) h = scalesOf X 16 := by
  funext y
  rw [← ix3_eta y]
  generalize y 0 = a
  generalize y 1 = b
  generalize y 2 = d
  pointwise [scales4Of, scalesOf]
  rw [Nat.div_add_mod']

/-- The scales of the first array. -/
theorem W4_xscales : (W4 m ρ c (Proc.devRef .tc main_v2) : S12x16x3584.Idx → EReal) = scalesOf (argX m c) 16 := by
  refine (W4_of m ρ c main_v2 (by decide)).trans ?_
  have h : (W2 m ρ c (Proc.devRef .tc main_v1_1) : S12x8x2x3584.Idx → EReal) = scales4Of (argX m c) 8 := by
    refine (W2_arr m ρ c 3).trans ((scales0 (V1 m ρ) c).trans ?_)
    unfold arr0
    rw [V1_arg0 m ρ c]
  show StableHlo.after hostOps1 (W2 m ρ c) (Proc.devRef .tc main_v2) = _
  simp only [hostOps1, StableHlo.after_cons, StableHlo.after_nil]
  refine (StableHlo.reshape_result ..).trans ?_
  refine Eq.trans ?_ (scales4_reshape (argX m c) shapeCasts_S12x8x2x3584_S12x16x3584)
  rw [← h]
  rfl

/-- The codes, the scales and the product of the second call. -/
theorem W4_dycodes : (W4 m ρ c (Proc.devRef .tc main_v3_0) : S12x1024x18944.Idx → BitVec 8)
    = codesOf (argDy m c) (argSeeds m c (ix1 1)) := by
  refine (W4_arr m ρ c 3).trans ((codes1 (V3 m ρ) c).trans ?_)
  unfold arr1 seeds1
  rw [V3_seeds m ρ c, V3_arg1 m ρ c]
theorem W4_dyscales : (W4 m ρ c (Proc.devRef .tc main_v3_1) : S12x16x18944.Idx → EReal) = scalesOf (argDy m c) 16 := by
  refine (W4_arr m ρ c 4).trans ((scales1 (V3 m ρ) c).trans ?_)
  unfold arr1
  rw [V3_arg1 m ρ c]
theorem W4_dw : (W4 m ρ c (Proc.devRef .tc main_v3_2) : S3584x18944.Idx → EReal)
    = prodOf (deqT (argX m c) (argSeeds m c (ix1 0))) (argDy m c) (argSeeds m c (ix1 1)) := by
  refine (W4_arr m ρ c 5).trans ((product1_array (V3 m ρ) c).trans ?_)
  unfold arr1 seeds1 left1
  rw [V3_seeds m ρ c, V3_arg1 m ρ c, V3_prods m ρ c]

end boundary

-- the launch theorem's implicit arguments are found by unifying its conclusion with this one, which takes unfolding
-- plain definitions in a metavariable's type
set_option backward.isDefEq.respectTransparency.types false in
/-- The ideal kernel runs to its end with its five results and its arguments unchanged. -/
theorem run : θ_run defs (onTc (τ := τ) (main (F := Ideal))) ⟨m, fun _ => 0, ρ⟩ (fun r => ∀ c : Dev nD,
      r.2.mem ((c.tc : Thread nD τ).loc main_v3_2)
          = prodOf (deqT (argX m c) (argSeeds m c (ix1 0))) (argDy m c) (argSeeds m c (ix1 1))
      ∧ r.2.mem ((c.tc : Thread nD τ).loc main_v1_0) = codesOf (argX m c) (argSeeds m c (ix1 0))
      ∧ r.2.mem ((c.tc : Thread nD τ).loc main_v2) = scalesOf (argX m c) 16
      ∧ r.2.mem ((c.tc : Thread nD τ).loc main_v3_0) = codesOf (argDy m c) (argSeeds m c (ix1 1))
      ∧ r.2.mem ((c.tc : Thread nD τ).loc main_v3_1) = scalesOf (argDy m c) 16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v3_2 (by decide))).trans (W4_dw m ρ c),
       (h c _ (mem_uc main_v1_0 (by decide))).trans (W4_xcodes m ρ c),
       (h c _ (mem_uc main_v2 (by decide))).trans (W4_xscales m ρ c),
       (h c _ (mem_uc main_v3_0 (by decide))).trans (W4_dycodes m ρ c),
       (h c _ (mem_uc main_v3_1 (by decide))).trans (W4_dyscales m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Value

end
-- ==== Proof.RefScalar.lean ====
/- What the reference computes of one number, over the extended reals: the count of the powers of two at most a block's
   greatest magnitude, the powers of two, the hash, the code of a value and the dequantised value. -/
module

public import proofs.«01_k».proof.Proof.Blocks

@[expose] public section

noncomputable section

namespace Cert.Bfp

open Idealize.ShloMosaic

/-- Whether the `k`-th power of two from `2 ^ -126` is at most `a`, as a word. -/
def refLe (a : EReal) (k : Fin 254) : BitVec 32 :=
  BitVec.setWidth 32 (BitVec.ofBool (decide (Ideal.pow (Ideal.ofBits .f32 0x40000000#32)
    (Ideal.ofBits .f32 0xC2FC0000#32 + FloatOps.sitofp (F := Ideal) .f32 (BitVec.ofNat 32 k)) ≤ a)))

/-- Whether `a` is infinite. -/
def refInf (a : EReal) : BitVec 1 := BitVec.ofBool (decide (a = Ideal.ofBits .f32 0x7F800000#32))

/-- The exponent: the count of those, less 126; zero at infinity. -/
def refExp (a : EReal) : BitVec 32 :=
  Scalar.select (refInf a) 0#32 (IntOp.subi (Finset.univ.fold IntOp.addi 0#32 (refLe a)) 126#32)

/-- The power of two of a signed word. -/
def refPow (e : BitVec 32) : EReal := Ideal.pow (Ideal.ofBits .f32 0x40000000#32) (FloatOps.sitofp (F := Ideal) .f32 e)

/-- Whether `a` is zero. -/
def refZero (a : EReal) : BitVec 1 := BitVec.ofBool (decide (a = 0))

/-- The scale of a block whose greatest magnitude is `a`. -/
def refScale (a : EReal) : EReal := Scalar.select (refZero a) 1 (refPow (IntOp.subi (refExp a) 7#32))

/-- The factor that such a block is multiplied by. -/
def refMult (a : EReal) : EReal := Scalar.select (refZero a) 1 (refPow (IntOp.subi 7#32 (refExp a)))

/-- One round of the hash. -/
def refRound (k c w : BitVec 32) : BitVec 32 := IntOp.muli (IntOp.xori w (IntOp.shrui .host w k)) c

/-- The hash's first two rounds. -/
def refHash (w : BitVec 32) : BitVec 32 := refRound 15#32 2221713035#32 (refRound 16#32 2146121005#32 w)

/-- The code of the value `v` under the factor `m` and the word `h` of the hash's second round. -/
def refCode (v m : EReal) (h : BitVec 32) : BitVec 8 :=
  BitVec.setWidth 8 (FloatOps.fptosi (F := Ideal) (φ := .f32) 32
    (min (FloatOps.sitofp (F := Ideal) .f32 127#32) (max (FloatOps.sitofp (F := Ideal) .f32 4294967169#32)
      (Ideal.liftRound Int.floor (v * m + FloatOps.uitofp (F := Ideal) .f32
        (IntOp.shrui .host (IntOp.xori h (IntOp.shrui .host h 16#32)) 8#32) * Ideal.ofBits .f32 0x33800000#32)))))

/-- The dequantised value of a code under a scale. -/
def refDeq (c : BitVec 8) (s : EReal) : EReal := FloatOps.sitofp (F := Ideal) .f32 (BitVec.signExtend 32 c) * s

/-- The reference's seeded position. -/
theorem ref_pos (s : BitVec 32) (C b r l : ℕ) :
    IntOp.xori (IntOp.addi (IntOp.muli (IntOp.addi (IntOp.muli (BitVec.ofNat 32 b) 1024#32) (BitVec.ofNat 32 r)) (BitVec.ofNat 32 C))
      (BitVec.ofNat 32 l)) s = pos s C b r l := by
  unfold pos seeded
  congr 1
  simp only [IntOp.addi, IntOp.muli]
  rw [show (1024#32 : BitVec 32) = BitVec.ofNat 32 1024 from rfl]
  simp only [← BitVec.ofNat_mul, ← BitVec.ofNat_add]

end Cert.Bfp

end
-- ==== Proof.Exact.lean ====
/- Where a block's greatest magnitude is zero or at least `2 ^ -120`, the kernel's exponent, scale and
   factor are the reference's: the bit-by-bit search finds the binade that the reference counts to, and the scale words
   are the powers of two themselves. Also: the two hashes agree, and a rounded value is an integer its code keeps. -/
module

public import proofs.«01_k».proof.Proof.RefScalar

@[expose] public section

noncomputable section

namespace Cert.Bfp

open Idealize.ShloMosaic

/-- The magnitudes for which the scale is a power of two in range. -/
def Exact (a : EReal) : Prop := a = 0 ∨ (((2 : ℝ) ^ (-120 : ℤ) : ℝ) : EReal) ≤ a

/-! ### Powers of two -/

/-- The fields of the word with biased exponent `E` and no fraction. -/
theorem pow2_fields : ∀ E : Fin 255,
    (((IntOp.shli .vector (BitVec.ofNat 32 E.val) 23#32).extractLsb' 31 1 == 1#1) = false
    ∧ ((IntOp.shli .vector (BitVec.ofNat 32 E.val) 23#32).extractLsb' 23 8).toNat = E.val)
    ∧ ((IntOp.shli .vector (BitVec.ofNat 32 E.val) 23#32).extractLsb' 0 23).toNat = 0 := by decide +kernel

/-- A word with no sign and no fraction denotes a power of two. -/
theorem ieee_pow2 (x : BitVec 32) (E : ℕ) (h1 : 1 ≤ E) (h2 : E ≤ 254) (hn : (x.extractLsb' 31 1 == 1#1) = false)
    (he : (x.extractLsb' 23 8).toNat = E) (hf : (x.extractLsb' 0 23).toNat = 0) :
    Ideal.ieee 8 23 x = (((2 : ℝ) ^ ((E : ℤ) - 127) : ℝ) : EReal) := by
  unfold Ideal.ieee
  simp only [he, hf]
  rw [show (8 + 23) = 31 from rfl, hn, if_neg (by omega), if_neg (by omega)]
  have : ((E : ℤ) - 127) = 23 + ((E : ℤ) - (2 ^ (8 - 1) - 1) - (23 : ℕ)) := by norm_num
  rw [this, zpow_add₀ (by norm_num)]
  norm_num

/-- The power of two of a biased exponent. -/
theorem pow2_eq (E : ℕ) (h1 : 1 ≤ E) (h2 : E ≤ 254) :
    pow2 (F := Ideal) (BitVec.ofNat 32 E) = (((2 : ℝ) ^ ((E : ℤ) - 127) : ℝ) : EReal) :=
  have h := pow2_fields ⟨E, by omega⟩
  ieee_pow2 _ E h1 h2 h.1.1 h.1.2 h.2

theorem pow2_zero : pow2 (F := Ideal) (BitVec.ofNat 32 0) = 0 := by
  show Ideal.ofBits .f32 (IntOp.shli .vector (BitVec.ofNat 32 0) 23#32) = _
  rw [show IntOp.shli .vector (BitVec.ofNat 32 0) 23#32 = 0#32 by decide]
  simp [Ideal.ofBits, Ideal.ieee]

theorem pow2_top : pow2 (F := Ideal) (BitVec.ofNat 32 255) = ⊤ := by
  show Ideal.ofBits .f32 (IntOp.shli .vector (BitVec.ofNat 32 255) 23#32) = _
  rw [show IntOp.shli .vector (BitVec.ofNat 32 255) 23#32 = 0x7F800000#32 by decide]
  simp [Ideal.ofBits, Ideal.ieee]

theorem ofBits_inf : Ideal.ofBits .f32 0x7F800000#32 = (⊤ : EReal) := by
  simp [Ideal.ofBits, Ideal.ieee]
theorem ofBits_two : Ideal.ofBits .f32 0x40000000#32 = ((2 : ℝ) : EReal) := by
  simp [Ideal.ofBits, Ideal.ieee, -EReal.coe_mul]; norm_num
theorem ofBits_neg126 : Ideal.ofBits .f32 0xC2FC0000#32 = ((-126 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_neg127 : Ideal.ofBits .f32 0xC2FE0000#32 = ((-127 : ℝ) : EReal) := by
  simp [Ideal.ofBits, Ideal.ieee, -EReal.coe_mul]; norm_num
theorem ofBits_zero : Ideal.ofBits .f32 0x00000000#32 = (0 : EReal) := by
  simp [Ideal.ofBits, Ideal.ieee]
theorem ofBits_one : Ideal.ofBits .f32 0x3F800000#32 = (1 : EReal) := by
  simp [Ideal.ofBits, Ideal.ieee, -EReal.coe_mul]; norm_num

/-- Two to an integer power. -/
theorem pow_two_int (n : ℤ) : Ideal.pow ((2 : ℝ) : EReal) (((n : ℝ)) : EReal) = (((2 : ℝ) ^ n : ℝ) : EReal) :=
  congrArg Real.toEReal (Real.rpow_intCast 2 n)

/-- The reference's power of two of a word. -/
theorem refPow_eq (e : BitVec 32) : refPow e = (((2 : ℝ) ^ e.toInt : ℝ) : EReal) := by
  unfold refPow
  rw [ofBits_two]
  exact pow_two_int e.toInt

/-! ### The search and the count -/

/-- One step of the search, on numbers. -/
def stepNat (E e bit : ℕ) : ℕ := if e + bit ≤ E then e + bit else e

theorem stepNat_le (E e bit : ℕ) : stepNat E e bit ≤ e + bit := by
  unfold stepNat; split_ifs <;> omega

/-- The search on numbers finds every number below 256. -/
theorem search_nat : ∀ E : Fin 256, stepNat E (stepNat E (stepNat E (stepNat E (stepNat E (stepNat E (stepNat E (stepNat E 0
    128) 64) 32) 16) 8) 4) 2) 1 = E.val := by decide +kernel

/-- One step of the search when `E` is the greatest exponent whose power is at most `a`. -/
theorem expStep_eq {a : EReal} {E : ℕ} (h : ∀ e ≤ 255, pow2 (F := Ideal) (BitVec.ofNat 32 e) ≤ a ↔ e ≤ E) (e bit : ℕ)
    (hb : e + bit ≤ 255) : expStep (F := Ideal) a (BitVec.ofNat 32 e) (BitVec.ofNat 32 bit) = BitVec.ofNat 32 (stepNat E e bit) := by
  have hs : IntOp.addi (BitVec.ofNat 32 e) (BitVec.ofNat 32 bit) = BitVec.ofNat 32 (e + bit) := (BitVec.ofNat_add ..).symm
  unfold expStep stepNat
  rw [hs]
  show Scalar.select (BitVec.ofBool (decide (pow2 (F := Ideal) (BitVec.ofNat 32 (e + bit)) ≤ a))) _ _ = _
  by_cases hE : e + bit ≤ E
  · rw [decide_eq_true ((h _ hb).2 hE), if_pos hE]; rfl
  · rw [decide_eq_false (fun hh => hE ((h _ hb).1 hh)), if_neg hE]; rfl

/-- The search finds it. -/
theorem biasedExp_eq {a : EReal} {E : ℕ} (h : ∀ e ≤ 255, pow2 (F := Ideal) (BitVec.ofNat 32 e) ≤ a ↔ e ≤ E)
    (hE : E ≤ 255) : biasedExp (F := Ideal) a = BitVec.ofNat 32 E := by
  have key := search_nat ⟨E, by omega⟩
  have b1 := stepNat_le E 0 128
  unfold biasedExp
  rw [show (0#32 : BitVec 32) = BitVec.ofNat 32 0 from rfl, expStep_eq h 0 128 (by omega)]
  revert key
  generalize stepNat E 0 128 = x1 at *
  intro key
  have b2 := stepNat_le E x1 64
  rw [expStep_eq h x1 64 (by omega)]
  revert key
  generalize stepNat E x1 64 = x2 at *
  intro key
  have b3 := stepNat_le E x2 32
  rw [expStep_eq h x2 32 (by omega)]
  revert key
  generalize stepNat E x2 32 = x3 at *
  intro key
  have b4 := stepNat_le E x3 16
  rw [expStep_eq h x3 16 (by omega)]
  revert key
  generalize stepNat E x3 16 = x4 at *
  intro key
  have b5 := stepNat_le E x4 8
  rw [expStep_eq h x4 8 (by omega)]
  revert key
  generalize stepNat E x4 8 = x5 at *
  intro key
  have b6 := stepNat_le E x5 4
  rw [expStep_eq h x5 4 (by omega)]
  revert key
  generalize stepNat E x5 4 = x6 at *
  intro key
  have b7 := stepNat_le E x6 2
  rw [expStep_eq h x6 2 (by omega)]
  revert key
  generalize stepNat E x6 2 = x7 at *
  intro key
  rw [expStep_eq h x7 1 (by omega)]
  exact congrArg (BitVec.ofNat 32) key

/-- Adding words is adding numbers. -/
theorem fold_addi {n : ℕ} (g : Fin n → ℕ) (s : Finset (Fin n)) :
    s.fold IntOp.addi 0#32 (fun k => BitVec.ofNat 32 (g k)) = BitVec.ofNat 32 (∑ k ∈ s, g k) := by
  induction s using Finset.induction_on with
  | empty => rfl
  | insert a s ha ih =>
    rw [Finset.fold_insert ha, ih, Finset.sum_insert ha]
    exact (BitVec.ofNat_add ..).symm

/-- Adding up `E` ones among 254 words. -/
theorem count_eq (E : ℕ) (h : E ≤ 254) :
    Finset.univ.fold IntOp.addi 0#32 (fun k : Fin 254 => BitVec.ofNat 32 (if k.val < E then 1 else 0)) = BitVec.ofNat 32 E := by
  rw [fold_addi, ← Finset.sum_range (fun k => if k < E then 1 else 0), Finset.sum_boole]
  congr 1
  rw [show (Finset.range 254).filter (· < E) = Finset.range E by ext k; simp; omega]
  simp

/-- A number is not infinite. -/
theorem refInf_coe (r : ℝ) : refInf (r : EReal) = 0#1 := by
  unfold refInf
  rw [ofBits_inf, decide_eq_false (EReal.coe_ne_top r)]
  rfl
theorem refInf_top : refInf ⊤ = 1#1 := by
  unfold refInf
  rw [ofBits_inf, decide_eq_true rfl]
  rfl

/-- At infinity both exponents are zero. -/
theorem expOf_top : expOf (F := Ideal) (⊤ : EReal) = 0#32 := by
  have h : biasedExp (F := Ideal) (⊤ : EReal) = BitVec.ofNat 32 255 :=
    biasedExp_eq (fun e he => ⟨fun _ => he, fun _ => le_top⟩) le_rfl
  unfold expOf
  rw [h]
  rfl
theorem refExp_top : refExp ⊤ = 0#32 := by
  unfold refExp
  rw [refInf_top]
  rfl

/-- A finite magnitude from `2 ^ -120` on lies in one binade, which the search and the count both find (the last, from
    `2 ^ 127` on, has no end). -/
theorem exps {r : ℝ} (h1 : (2 : ℝ) ^ (-120 : ℤ) ≤ r) : ∃ E : Fin 255, 7 ≤ E.val ∧
    biasedExp (F := Ideal) (r : EReal) = BitVec.ofNat 32 E.val ∧ refExp (r : EReal) = IntOp.subi (BitVec.ofNat 32 E.val) 126#32 := by
  have hr : 0 < r := lt_of_lt_of_le (by positivity) h1
  obtain ⟨n, hn1, hn2⟩ := exists_mem_Ico_zpow hr (one_lt_two : (1 : ℝ) < 2)
  have hle : ∀ k : ℤ, (2 : ℝ) ^ k ≤ r ↔ k ≤ n := fun k =>
    ⟨fun h => by
      have := (zpow_lt_zpow_iff_right₀ (one_lt_two : (1 : ℝ) < 2)).1 (lt_of_le_of_lt h hn2)
      omega,
     fun h => le_trans ((zpow_le_zpow_iff_right₀ (one_lt_two : (1 : ℝ) < 2)).2 h) hn1⟩
  have hlo : -120 ≤ n := (hle _).1 h1
  obtain ⟨E, hE⟩ : ∃ E : ℕ, (E : ℤ) = min (n + 127) 254 := ⟨(min (n + 127) 254).toNat, by omega⟩
  refine ⟨⟨E, by omega⟩, by show 7 ≤ E; omega, ?_, ?_⟩
  · show _ = BitVec.ofNat 32 E
    refine biasedExp_eq (fun e he => ?_) (by omega)
    rcases Nat.eq_zero_or_pos e with rfl | hp
    · rw [pow2_zero]
      exact ⟨fun _ => Nat.zero_le _, fun _ => EReal.coe_nonneg.2 hr.le⟩
    rcases Nat.lt_or_ge 254 e with hq | hq
    · obtain rfl : e = 255 := by omega
      rw [pow2_top]
      exact ⟨fun h => absurd h (not_le.2 (EReal.coe_lt_top r)), fun h => by omega⟩
    rw [pow2_eq e hp hq, EReal.coe_le_coe_iff, hle]
    omega
  · unfold refExp
    show _ = IntOp.subi (BitVec.ofNat 32 E) 126#32
    rw [refInf_coe, show ∀ x y : BitVec 32, Scalar.select 0#1 x y = y from fun _ _ => rfl]
    rw [← count_eq E (by omega)]
    refine congrArg (fun f => IntOp.subi (Finset.univ.fold IntOp.addi 0#32 f) 126#32) (funext fun k => ?_)
    have hk : Ideal.ofBits .f32 0xC2FC0000#32 + FloatOps.sitofp (F := Ideal) .f32 (BitVec.ofNat 32 k)
        = ((((k.val : ℤ) - 126 : ℤ) : ℝ) : EReal) := by
      have hi : (BitVec.ofNat 32 k.val).toInt = (k.val : ℤ) := by
        have := k.2
        rw [BitVec.toInt_eq_toNat_cond, BitVec.toNat_ofNat]
        split_ifs <;> omega
      rw [ofBits_neg126]
      show ((-126 : ℝ) : EReal) + (((BitVec.ofNat 32 k.val).toInt : ℝ) : EReal) = _
      rw [hi, ← EReal.coe_add]
      congr 1
      push_cast
      ring
    unfold refLe
    rw [hk, ofBits_two, pow_two_int]
    by_cases hb : k.val < E
    · rw [if_pos hb, decide_eq_true (EReal.coe_le_coe_iff.2 ((hle _).2 (by omega)))]; rfl
    · rw [if_neg hb, decide_eq_false (fun h => hb (by have := (hle _).1 (EReal.coe_le_coe_iff.1 h); omega))]; rfl

/-! ### Scale and factor -/

/-- The scale's word, the factor's word and the reference's exponents, at every biased exponent in range. -/
theorem scale_word : ∀ E : Fin 255, 7 ≤ E.val →
    IntOp.maxsi (IntOp.addi (IntOp.subi (IntOp.subi (BitVec.ofNat 32 E.val) 126#32) 7#32) 127#32) 0#32 = BitVec.ofNat 32 (E.val - 6)
    ∧ (IntOp.subi (IntOp.subi (BitVec.ofNat 32 E.val) 126#32) 7#32).toInt = (E.val : ℤ) - 133 := by decide +kernel
theorem mult_word : ∀ E : Fin 255, 7 ≤ E.val →
    IntOp.minsi (IntOp.addi (IntOp.subi 7#32 (IntOp.subi (BitVec.ofNat 32 E.val) 126#32)) 127#32) 255#32 = BitVec.ofNat 32 (260 - E.val)
    ∧ (IntOp.subi 7#32 (IntOp.subi (BitVec.ofNat 32 E.val) 126#32)).toInt = 133 - (E.val : ℤ) := by decide +kernel
theorem guard_word : ∀ E : Fin 255, 7 ≤ E.val →
    IntOp.ori (IntOp.cmpi .eq (BitVec.ofNat 32 E.val) 0#32) (IntOp.cmpi .eq (BitVec.ofNat 32 E.val) 255#32) = 0#1 := by decide +kernel

/-- In range, the kernel's exponent is the reference's. -/
theorem expOf_eq {r : ℝ} {E : Fin 255} (hE : 7 ≤ E.val) (hb : biasedExp (F := Ideal) (r : EReal) = BitVec.ofNat 32 E.val) :
    expOf (F := Ideal) (r : EReal) = IntOp.subi (BitVec.ofNat 32 E.val) 126#32 := by
  unfold expOf
  rw [hb, guard_word E hE]
  rfl

theorem zero_test (a : EReal) : FloatOps.cmpf (F := Ideal) (φ := .f32) .oeq a (Scalar.ofBits .f32 0x00000000#32) = refZero a := by
  show BitVec.ofBool (decide (a = Ideal.ofBits .f32 0x00000000#32)) = _
  rw [ofBits_zero]; rfl

theorem select_zero_test {a x y x' y' : EReal} (hx : x = x') (h : a ≠ 0 → y = y') :
    Scalar.select (refZero a) x y = Scalar.select (refZero a) x' y' := by
  unfold refZero
  by_cases ha : a = 0
  · rw [decide_eq_true ha]; exact hx
  · rw [decide_eq_false ha]; exact h ha

/-- A magnitude from `2 ^ -120` on is infinite or a number. -/
theorem exact_cases {a : EReal} (h : (((2 : ℝ) ^ (-120 : ℤ) : ℝ) : EReal) ≤ a) :
    a = ⊤ ∨ ∃ r : ℝ, a = (r : EReal) ∧ (2 : ℝ) ^ (-120 : ℤ) ≤ r := by
  induction a using EReal.rec with
  | bot => exact absurd h (not_le.2 (EReal.bot_lt_coe _))
  | top => exact Or.inl rfl
  | coe r => exact Or.inr ⟨r, rfl, EReal.coe_le_coe_iff.1 h⟩

/-- At infinity the scale is `2 ^ -7` and the factor `2 ^ 7`, for both. -/
theorem scale_top : pow2 (F := Ideal) (IntOp.maxsi (IntOp.addi (IntOp.subi (expOf (F := Ideal) (⊤ : EReal)) 7#32) 127#32) 0#32)
    = refPow (IntOp.subi (refExp ⊤) 7#32) := by
  rw [expOf_top, refExp_top, refPow_eq,
    show IntOp.maxsi (IntOp.addi (IntOp.subi 0#32 7#32) 127#32) 0#32 = BitVec.ofNat 32 120 by decide,
    show (IntOp.subi 0#32 7#32).toInt = -7 by decide, pow2_eq _ (by omega) (by omega)]
  norm_num
theorem mult_top : pow2 (F := Ideal) (IntOp.minsi (IntOp.addi (IntOp.subi 7#32 (expOf (F := Ideal) (⊤ : EReal))) 127#32) 255#32)
    = refPow (IntOp.subi 7#32 (refExp ⊤)) := by
  rw [expOf_top, refExp_top, refPow_eq,
    show IntOp.minsi (IntOp.addi (IntOp.subi 7#32 0#32) 127#32) 255#32 = BitVec.ofNat 32 134 by decide,
    show (IntOp.subi 7#32 0#32).toInt = 7 by decide, pow2_eq _ (by omega) (by omega)]
  norm_num

/-- The kernel's scale is the reference's. -/
theorem scale_eq {a : EReal} (h : Exact a) : scale (F := Ideal) a = refScale a := by
  unfold scale refScale
  rw [zero_test]
  refine select_zero_test ofBits_one fun ha => ?_
  rcases exact_cases (h.resolve_left ha) with rfl | ⟨r, rfl, h1⟩
  · exact scale_top
  obtain ⟨E, hE, hb, hr⟩ := exps h1
  rw [expOf_eq hE hb, hr, (scale_word E hE).1, refPow_eq, (scale_word E hE).2, pow2_eq _ (by omega) (by omega)]
  congr 2
  omega

/-- The kernel's factor is the reference's. -/
theorem mult_eq {a : EReal} (h : Exact a) : mult (F := Ideal) a = refMult a := by
  unfold mult refMult
  rw [zero_test]
  refine select_zero_test ofBits_one fun ha => ?_
  rcases exact_cases (h.resolve_left ha) with rfl | ⟨r, rfl, h1⟩
  · exact mult_top
  obtain ⟨E, hE, hb, hr⟩ := exps h1
  rw [expOf_eq hE hb, hr, (mult_word E hE).1, refPow_eq, (mult_word E hE).2, pow2_eq _ (by omega) (by omega)]
  congr 2
  omega

/-! ### Hash, rounding and codes -/

/-- The shifts of the two units agree below the word's width. -/
theorem hash_eq (w : BitVec 32) :
    IntOp.shrui .host (IntOp.xori (refHash w) (IntOp.shrui .host (refHash w) 16#32)) 8#32 = hash w := rfl

/-- The hash is below `2 ^ 24`: read signed or unsigned it is the same number. -/
theorem hash_nonneg (w : BitVec 32) : ((hash w).toInt : ℤ) = ((hash w).toNat : ℤ) := by
  have : (hash w).toNat < 2 ^ 24 := by
    have key : ∀ z : BitVec 32, (IntOp.shrui .vector z 8#32).toNat < 2 ^ 24 := by
      intro z
      rw [show IntOp.shrui .vector z 8#32 = z >>> (8#32 : BitVec 32) from rfl]
      have := z.isLt
      simp [Nat.shiftRight_eq_div_pow]
      omega
    exact key _
  rw [BitVec.toInt_eq_toNat_cond]
  split_ifs <;> omega

/-- The reference's code is the code of the kernel's rounded value. -/
theorem refCode_eq (v m : EReal) (w : BitVec 32) : refCode v m (refHash w) = code (F := Ideal) (quant (F := Ideal) v m w) := by
  unfold refCode code quant
  rw [hash_eq]
  have h1 : FloatOps.uitofp (F := Ideal) .f32 (hash w) = FloatOps.sitofp (F := Ideal) .f32 (hash w) := by
    show (((hash w).toNat : ℝ) : EReal) = (((hash w).toInt : ℝ) : EReal)
    rw [hash_nonneg w, Int.cast_natCast]
  have h2 : FloatOps.sitofp (F := Ideal) .f32 127#32 = Ideal.ofBits .f32 0x42FE0000#32 := by
    rw [ofBits_127]
    show ((((127#32 : BitVec 32).toInt : ℤ) : ℝ) : EReal) = _
    rw [show (127#32 : BitVec 32).toInt = 127 by decide]; norm_num
  have h3 : FloatOps.sitofp (F := Ideal) .f32 4294967169#32 = Ideal.ofBits .f32 0xC2FE0000#32 := by
    rw [ofBits_neg127]
    show ((((4294967169#32 : BitVec 32).toInt : ℤ) : ℝ) : EReal) = _
    rw [show (4294967169#32 : BitVec 32).toInt = -127 by decide]; norm_num
  rw [h1, h2, h3]
  rfl

/-- A rounded value is an integer of magnitude at most 127. -/
theorem quant_int (v m : EReal) (w : BitVec 32) :
    ∃ k : Fin 255, quant (F := Ideal) v m w = ((((k.val : ℤ) - 127 : ℤ) : ℝ) : EReal) := by
  have key : ∀ y : EReal, ∃ k : Fin 255, min (Ideal.ofBits .f32 0x42FE0000#32) (max (Ideal.ofBits .f32 0xC2FE0000#32)
      (Ideal.liftRound Int.floor y)) = ((((k.val : ℤ) - 127 : ℤ) : ℝ) : EReal) := by
    intro y
    rw [ofBits_127, ofBits_neg127]
    induction y using EReal.rec with
    | bot =>
      refine ⟨0, ?_⟩
      show min ((127 : ℝ) : EReal) (max ((-127 : ℝ) : EReal) ⊥) = _
      rw [max_eq_left bot_le, min_eq_right (EReal.coe_le_coe_iff.2 (by norm_num))]
      norm_num
    | top =>
      refine ⟨254, ?_⟩
      show min ((127 : ℝ) : EReal) (max ((-127 : ℝ) : EReal) ⊤) = _
      rw [max_eq_right le_top, min_eq_left le_top]
      norm_num
    | coe r =>
      refine ⟨⟨(min 127 (max (-127) ⌊r⌋) + 127).toNat, by omega⟩, ?_⟩
      show min ((127 : ℝ) : EReal) (max ((-127 : ℝ) : EReal) (((⌊r⌋ : ℤ) : ℝ) : EReal)) = _
      rw [← EReal.coe_strictMono.monotone.map_max, ← EReal.coe_strictMono.monotone.map_min]
      congr 1
      rw [show (((min 127 (max (-127) ⌊r⌋) + 127).toNat : ℤ) - 127) = min 127 (max (-127) ⌊r⌋) by omega]
      push_cast
      rfl
  exact key _

/-- Its code keeps it. -/
theorem code_int : ∀ k : Fin 255, (BitVec.signExtend 32 (BitVec.setWidth 8 (BitVec.ofInt 32 ((k.val : ℤ) - 127)))).toInt
    = (k.val : ℤ) - 127 := by decide +kernel

/-- So the dequantised value is the rounded value times the scale. -/
theorem refDeq_eq (v m : EReal) (w : BitVec 32) (s : EReal) :
    refDeq (code (F := Ideal) (quant (F := Ideal) v m w)) s = quant (F := Ideal) v m w * s := by
  obtain ⟨k, hk⟩ := quant_int v m w
  rw [hk]
  unfold refDeq code
  have h : FloatOps.fptosi (F := Ideal) (φ := .f32) 32 ((((k.val : ℤ) - 127 : ℤ) : ℝ) : EReal) = BitVec.ofInt 32 ((k.val : ℤ) - 127) := by
    show Ideal.fptosi 32 ((((k.val : ℤ) - 127 : ℤ) : ℝ) : EReal) = _
    unfold Ideal.fptosi
    rw [Ideal.toIntClamped_coe, Int.floor_intCast, Int.ceil_intCast, ite_self]
    congr 1
    have := k.2
    norm_num
    omega
  rw [h]
  show ((((BitVec.signExtend 32 (BitVec.setWidth 8 (BitVec.ofInt 32 ((k.val : ℤ) - 127)))).toInt : ℤ) : ℝ) : EReal) * s = _
  rw [code_int k]

end Cert.Bfp

end
-- ==== Proof.RefX.lean ====
/- The reference's operations on its first array, one stage at a time, and what each stage computes at an element. -/
module

public import proofs.«01_k».proof.Proof.Gen.ReferenceIdeal.Run
public import proofs.«01_k».proof.Proof.Blocks
public import proofs.«01_k».proof.Proof.RefScalar
public import Idealize.ShloMosaic.Lib.Tactic.CleanTypes

@[expose] public section

set_option maxRecDepth 16384

noncomputable section

namespace Cert.ReferenceIdeal.Value

open Idealize.ShloMosaic Cert.ReferenceIdeal Cert.ReferenceIdeal.Gen Cert.Bfp

/-- The greatest magnitude of each 64 rows of a column. -/
def amaxTermX (X : FVec Ideal S12x1024x3584 .bf16) : FVec Ideal S12x16x3584 .f32 :=
  Host.reduce FloatOps.maximumf (Host.absf (shapeCast _ (extf .f32 X bitsLt_bf16_f32) shapeCasts_S12x1024x3584_S12x16x64x3584)) (constant S_ .f32 0xFF800000#32) reducesTo_S12x16x64x3584_S12x16x3584_d2 h_S_

/-- One where the power of two is at most the magnitude. -/
def leTermX (A : FVec Ideal S12x16x3584 .f32) : IVec S12x16x3584x254 32 :=
  extui 32 (cmpf .oge (broadcastInDim S12x16x3584x254 ![0, 1, 2, 3] bcast_S12x16x3584x1_S12x16x3584x254_0_1_2_3 (broadcastInDim S12x16x3584x1 ![0, 1, 2] bcast_S12x16x3584_S12x16x3584x1_0_1_2 A)) (broadcastInDim S12x16x3584x254 ![0, 1, 2, 3] bcast_S1x1x1x254_S12x16x3584x254_0_1_2_3 (broadcastInDim S1x1x1x254 ![3] bcast_S254_S1x1x1x254_3 (Host.powf (broadcastInDim S254 ![] bcast_S_S254 (constant S_ .f32 0x40000000#32)) (addf (broadcastInDim S254 ![] bcast_S_S254 (constant S_ .f32 0xC2FC0000#32)) (sitofp .f32 (iotaInDim S254 32 0) : FVec Ideal S254 .f32)))))) natLt_1_32

/-- Where the magnitude is infinite. -/
def infTermX (A : FVec Ideal S12x16x3584 .f32) : IVec S12x16x3584 1 :=
  cmpf .oeq A (broadcastInDim S12x16x3584 ![] bcast_S_S12x16x3584 (constant S_ .f32 0x7F800000#32))

/-- The exponent from that and the comparisons. -/
def expTermX (I : IVec S12x16x3584 1) (L : IVec S12x16x3584x254 32) : IVec S12x16x3584 32 :=
  select I (broadcastInDim S12x16x3584 ![] bcast_S_S12x16x3584 (id (constantI S_ 32 0#32))) (subi (Host.reduce IntOp.addi L (constantI S_ 32 0#32) reducesTo_S12x16x3584x254_S12x16x3584_d3 h_S_) (broadcastInDim S12x16x3584 ![] bcast_S_S12x16x3584 (constantI S_ 32 126#32)))

/-- Where a block is all zero. -/
def zeroTermX (A : FVec Ideal S12x16x3584 .f32) : IVec S12x16x3584 1 :=
  cmpf .oeq A (broadcastInDim S12x16x3584 ![] bcast_S_S12x16x3584 (constant S_ .f32 0x00000000#32))

/-- The factors that the blocks are multiplied by. -/
def multTermX (Z : IVec S12x16x3584 1) (E : IVec S12x16x3584 32) : FVec Ideal S12x16x3584 .f32 :=
  select Z (broadcastInDim S12x16x3584 ![] bcast_S_S12x16x3584 (constant S_ .f32 0x3F800000#32)) (Host.powf (broadcastInDim S12x16x3584 ![] bcast_S_S12x16x3584 (constant S_ .f32 0x40000000#32)) (sitofp .f32 (subi (broadcastInDim S12x16x3584 ![] bcast_S_S12x16x3584 (constantI S_ 32 7#32)) E)))

/-- The scales. -/
def scaleTermX (Z : IVec S12x16x3584 1) (E : IVec S12x16x3584 32) : FVec Ideal S12x16x3584 .f32 :=
  select Z (broadcastInDim S12x16x3584 ![] bcast_S_S12x16x3584 (constant S_ .f32 0x3F800000#32)) (Host.powf (broadcastInDim S12x16x3584 ![] bcast_S_S12x16x3584 (constant S_ .f32 0x40000000#32)) (sitofp .f32 (subi E (broadcastInDim S12x16x3584 ![] bcast_S_S12x16x3584 (constantI S_ 32 7#32)))))

/-- The seeded flat positions. -/
def posTermX (S : IVec S2 32) : IVec S12x1024x3584 32 :=
  xori (addi (muli (addi (muli (iotaInDim S12x1024x3584 32 0) (broadcastInDim S12x1024x3584 ![] bcast_S_S12x1024x3584 (constantI S_ 32 1024#32))) (iotaInDim S12x1024x3584 32 1)) (broadcastInDim S12x1024x3584 ![] bcast_S_S12x1024x3584 (constantI S_ 32 3584#32))) (iotaInDim S12x1024x3584 32 2)) (broadcastInDim S12x1024x3584 ![] bcast_S_S12x1024x3584 (shapeCast _ (extractStridedSlice S1 ![0] S slices_S2_S1_0) shapeCasts_S1_S_))

/-- The hash's two rounds of shift and multiplication. -/
def roundTermX (k c : BitVec 32) (P : IVec S12x1024x3584 32) : IVec S12x1024x3584 32 :=
  muli (xori P (Host.shrui P (broadcastInDim S12x1024x3584 ![] bcast_S_S12x1024x3584 (constantI S_ 32 k)))) (broadcastInDim S12x1024x3584 ![] bcast_S_S12x1024x3584 (constantI S_ 32 c))

/-- The codes. -/
def codesTermX (X : FVec Ideal S12x1024x3584 .bf16) (M : FVec Ideal S12x16x3584 .f32) (H : IVec S12x1024x3584 32) : IVec S12x1024x3584 8 :=
  shapeCast _ (trunci 8 (fptosi 32 (minimumf (broadcastInDim S12x16x64x3584 ![] bcast_S_S12x16x64x3584 (sitofp .f32 (constantI S_ 32 127#32))) (maximumf (broadcastInDim S12x16x64x3584 ![] bcast_S_S12x16x64x3584 (sitofp .f32 (constantI S_ 32 4294967169#32))) (Host.floor (addf (mulf (shapeCast _ (extf .f32 X bitsLt_bf16_f32) shapeCasts_S12x1024x3584_S12x16x64x3584) (broadcastInDim S12x16x64x3584 ![0, 1, 2, 3] bcast_S12x16x1x3584_S12x16x64x3584_0_1_2_3 (broadcastInDim S12x16x1x3584 ![0, 1, 3] bcast_S12x16x3584_S12x16x1x3584_0_1_3 M))) (shapeCast _ (mulf (uitofp .f32 (Host.shrui (xori H (Host.shrui H (broadcastInDim S12x1024x3584 ![] bcast_S_S12x1024x3584 (constantI S_ 32 16#32)))) (broadcastInDim S12x1024x3584 ![] bcast_S_S12x1024x3584 (constantI S_ 32 8#32)))) (broadcastInDim S12x1024x3584 ![] bcast_S_S12x1024x3584 (constant S_ .f32 0x33800000#32))) shapeCasts_S12x1024x3584_S12x16x64x3584)))))) natLt_8_32) shapeCasts_S12x16x64x3584_S12x1024x3584

/-- The dequantised values. -/
def deqTermX (C : IVec S12x1024x3584 8) (S : FVec Ideal S12x16x3584 .f32) : FVec Ideal S12x1024x3584 .bf16 :=
  shapeCast _ (mulf (shapeCast _ (sitofp .bf16 (extsi 32 C natLt_8_32) : FVec Ideal S12x1024x3584 .bf16) shapeCasts_S12x1024x3584_S12x16x64x3584) (broadcastInDim S12x16x64x3584 ![0, 1, 2, 3] bcast_S12x16x1x3584_S12x16x64x3584_0_1_2_3 (broadcastInDim S12x16x1x3584 ![0, 1, 3] bcast_S12x16x3584_S12x16x1x3584_0_1_3 (truncf .bf16 S bitsLt_bf16_f32)))) shapeCasts_S12x16x64x3584_S12x1024x3584

theorem amaxTermX_apply (X : FVec Ideal S12x1024x3584 .bf16) (b : Fin 12) (q : Fin 16) (l : Fin 3584) :
    amaxTermX X (ix3 b q l) = (amax (X : S12x1024x3584.Idx → EReal) b q l : EReal) := by
  unfold amaxTermX
  pointwise
  unfold amax colMax
  rw [ofBits_neg_inf]
  refine congrArg (fun f => Finset.univ.fold max (⊥ : EReal) f) (funext fun i => ?_)
  have h : at3 (X : S12x1024x3584.Idx → EReal) b (64 * q + i) l = X (ix3 b ⟨q * 64 + i, by omega⟩ l) := by
    rw [Nat.mul_comm 64]
    exact at3_ix3 (X : S12x1024x3584.Idx → EReal) b ⟨q * 64 + i, by omega⟩ l
  exact congrArg (fun z : EReal => max z (-z)) h.symm

theorem leTermX_apply (A : FVec Ideal S12x16x3584 .f32) (b : Fin 12) (q : Fin 16) (l : Fin 3584) (k : Fin 254) :
    leTermX A (ix4 b q l k) = refLe (A (ix3 b q l)) k := by
  unfold leTermX
  pointwise
  rfl

theorem infTermX_apply (A : FVec Ideal S12x16x3584 .f32) (b : Fin 12) (q : Fin 16) (l : Fin 3584) :
    infTermX A (ix3 b q l) = refInf (A (ix3 b q l)) := by
  unfold infTermX
  pointwise
  rfl

theorem expTermX_apply (I : IVec S12x16x3584 1) (L : IVec S12x16x3584x254 32) (b : Fin 12) (q : Fin 16) (l : Fin 3584) :
    expTermX I L (ix3 b q l) = Scalar.select (I (ix3 b q l)) 0#32
      (IntOp.subi (Finset.univ.fold IntOp.addi 0#32 fun k : Fin 254 => L (ix4 b q l k)) 126#32) := by
  have h' : S12x16x3584x254.Reduces [3] S12x16x3584 := by decide
  refine congrArg (fun z => Scalar.select (I (ix3 b q l)) 0#32 (IntOp.subi z 126#32)) ((Host.reduce_eq_fold_single IntOp.addi L _ _ h' _ _).trans ?_)
  refine congrArg (fun f => Finset.univ.fold IntOp.addi 0#32 f) (funext fun k => congrArg L ?_)
  funext a
  match a with
  | 0 => rfl
  | 1 => rfl
  | 2 => rfl
  | 3 => rfl

theorem multTermX_apply (Z : IVec S12x16x3584 1) (E : IVec S12x16x3584 32) (b : Fin 12) (q : Fin 16) (l : Fin 3584) :
    multTermX Z E (ix3 b q l) = (Scalar.select (Z (ix3 b q l)) 1 (refPow (IntOp.subi 7#32 (E (ix3 b q l)))) : EReal) := by
  unfold multTermX
  pointwise
  rfl

theorem scaleTermX_apply (Z : IVec S12x16x3584 1) (E : IVec S12x16x3584 32) (b : Fin 12) (q : Fin 16) (l : Fin 3584) :
    scaleTermX Z E (ix3 b q l) = (Scalar.select (Z (ix3 b q l)) 1 (refPow (IntOp.subi (E (ix3 b q l)) 7#32)) : EReal) := by
  unfold scaleTermX
  pointwise
  rfl

theorem zeroTermX_apply (A : FVec Ideal S12x16x3584 .f32) (b : Fin 12) (q : Fin 16) (l : Fin 3584) :
    zeroTermX A (ix3 b q l) = refZero (A (ix3 b q l)) := by
  unfold zeroTermX
  pointwise
  rfl

theorem posTermX_apply (S : IVec S2 32) (b : Fin 12) (r : Fin 1024) (l : Fin 3584) :
    posTermX S (ix3 b r l) = pos (S (ix1 0)) 3584 b r l := by
  unfold posTermX
  pointwise
  exact ref_pos ..

theorem roundTermX_apply (k c : BitVec 32) (P : IVec S12x1024x3584 32) (b : Fin 12) (r : Fin 1024) (l : Fin 3584) :
    roundTermX k c P (ix3 b r l) = refRound k c (P (ix3 b r l)) := by
  unfold roundTermX
  pointwise
  rfl

theorem codesTermX_apply (X : FVec Ideal S12x1024x3584 .bf16) (M : FVec Ideal S12x16x3584 .f32) (H : IVec S12x1024x3584 32)
    (b : Fin 12) (r : Fin 1024) (l : Fin 3584) :
    codesTermX X M H (ix3 b r l)
      = refCode (X (ix3 b r l)) (M (ix3 b ⟨r / 64, by omega⟩ l)) (H (ix3 b r l)) := by
  unfold codesTermX
  pointwise
  rfl

theorem deqTermX_apply (C : IVec S12x1024x3584 8) (S : FVec Ideal S12x16x3584 .f32) (b : Fin 12) (r : Fin 1024) (l : Fin 3584) :
    deqTermX C S (ix3 b r l) = (refDeq (C (ix3 b r l)) (S (ix3 b ⟨r / 64, by omega⟩ l)) : EReal) := by
  unfold deqTermX
  pointwise
  rfl

-- What the reference is, stage by stage, in these terms.
section named
variable (V : Valuation τ sig (Elt Ideal))

/-- The first array and the seeds. -/
abbrev inX : FVec Ideal S12x1024x3584 .bf16 := V (Proc.devRef .tc main_arg0)
abbrev inSeeds : IVec S2 32 := V (Proc.devRef .tc main_arg2)

/-- The whole chain up to the exponent, the scales, the factors, the hash and the codes. -/
def expX : IVec S12x16x3584 32 := expTermX (infTermX (amaxTermX (inX V))) (leTermX (amaxTermX (inX V)))
def zeroX : IVec S12x16x3584 1 := zeroTermX (amaxTermX (inX V))
def hashX : IVec S12x1024x3584 32 := roundTermX 15#32 2221713035#32 (roundTermX 16#32 2146121005#32 (posTermX (inSeeds V)))
def scalesX : FVec Ideal S12x16x3584 .f32 := scaleTermX (zeroX V) (expX V)
def codesX : IVec S12x1024x3584 8 := codesTermX (inX V) (multTermX (zeroX V) (expX V)) (hashX V)

theorem res_v7 : res_main_v7 V = amaxTermX (inX V) := rfl
theorem res_v24 : res_main_v24 V = expX V := rfl
theorem res_v26 : res_main_v26 V = zeroX V := rfl
theorem res_v62 : res_main_v62 V = hashX V := rfl

/-- The scales, at an element. -/
theorem scalesX_apply (b : Fin 12) (q : Fin 16) (l : Fin 3584) :
    scalesX V (ix3 b q l) = (refScale (amax (inX V : S12x1024x3584.Idx → EReal) b q l) : EReal) := by
  refine (scaleTermX_apply (zeroX V) (expX V) b q l).trans ?_
  unfold zeroX expX refScale refExp
  rw [zeroTermX_apply, expTermX_apply, infTermX_apply, amaxTermX_apply]
  refine congrArg (fun f => Scalar.select _ 1 (refPow (IntOp.subi (Scalar.select _ 0#32 (IntOp.subi (Finset.univ.fold IntOp.addi 0#32 f) 126#32)) 7#32))) (funext fun k => ?_)
  rw [leTermX_apply, amaxTermX_apply]

/-- The factors, at an element. -/
theorem multX_apply (b : Fin 12) (q : Fin 16) (l : Fin 3584) :
    multTermX (zeroX V) (expX V) (ix3 b q l) = (refMult (amax (inX V : S12x1024x3584.Idx → EReal) b q l) : EReal) := by
  refine (multTermX_apply (zeroX V) (expX V) b q l).trans ?_
  unfold zeroX expX refMult refExp
  rw [zeroTermX_apply, expTermX_apply, infTermX_apply, amaxTermX_apply]
  refine congrArg (fun f => Scalar.select _ 1 (refPow (IntOp.subi 7#32 (Scalar.select _ 0#32 (IntOp.subi (Finset.univ.fold IntOp.addi 0#32 f) 126#32))))) (funext fun k => ?_)
  rw [leTermX_apply, amaxTermX_apply]

/-- The codes, at an element. -/
theorem codesX_apply (b : Fin 12) (r : Fin 1024) (l : Fin 3584) :
    codesX V (ix3 b r l) = refCode (inX V (ix3 b r l)) (refMult (amax (inX V : S12x1024x3584.Idx → EReal) b (r / 64) l))
      (refHash (pos (inSeeds V (ix1 0)) 3584 b r l)) := by
  refine (codesTermX_apply (inX V) (multTermX (zeroX V) (expX V)) (hashX V) b r l).trans ?_
  have hh : hashX V (ix3 b r l) = refHash (pos (inSeeds V (ix1 0)) 3584 b r l) := by
    unfold hashX refHash
    rw [roundTermX_apply, roundTermX_apply, posTermX_apply]
  rw [hh, multX_apply]

/-- The dequantised values, at an element. -/
theorem deqX_apply (b : Fin 12) (r : Fin 1024) (l : Fin 3584) :
    deqTermX (codesX V) (scalesX V) (ix3 b r l)
      = (refDeq (refCode (inX V (ix3 b r l)) (refMult (amax (inX V : S12x1024x3584.Idx → EReal) b (r / 64) l))
          (refHash (pos (inSeeds V (ix1 0)) 3584 b r l))) (refScale (amax (inX V : S12x1024x3584.Idx → EReal) b (r / 64) l)) : EReal) := by
  refine (deqTermX_apply (codesX V) (scalesX V) b r l).trans ?_
  rw [codesX_apply, scalesX_apply]

end named

end Cert.ReferenceIdeal.Value

end
-- ==== Proof.RefDy.lean ====
/- The reference's operations on its second array, one stage at a time, and what each stage computes at an element. -/
module

public import proofs.«01_k».proof.Proof.Gen.ReferenceIdeal.Run
public import proofs.«01_k».proof.Proof.Blocks
public import proofs.«01_k».proof.Proof.RefX
public import Idealize.ShloMosaic.Lib.Tactic.CleanTypes

@[expose] public section

set_option maxRecDepth 16384

noncomputable section

namespace Cert.ReferenceIdeal.Value

open Idealize.ShloMosaic Cert.ReferenceIdeal Cert.ReferenceIdeal.Gen Cert.Bfp

/-- The greatest magnitude of each 64 rows of a column. -/
def amaxTermDy (X : FVec Ideal S12x1024x18944 .bf16) : FVec Ideal S12x16x18944 .f32 :=
  Host.reduce FloatOps.maximumf (Host.absf (shapeCast _ (extf .f32 X bitsLt_bf16_f32) shapeCasts_S12x1024x18944_S12x16x64x18944)) (constant S_ .f32 0xFF800000#32) reducesTo_S12x16x64x18944_S12x16x18944_d2 h_S_

/-- One where the power of two is at most the magnitude. -/
def leTermDy (A : FVec Ideal S12x16x18944 .f32) : IVec S12x16x18944x254 32 :=
  extui 32 (cmpf .oge (broadcastInDim S12x16x18944x254 ![0, 1, 2, 3] bcast_S12x16x18944x1_S12x16x18944x254_0_1_2_3 (broadcastInDim S12x16x18944x1 ![0, 1, 2] bcast_S12x16x18944_S12x16x18944x1_0_1_2 A)) (broadcastInDim S12x16x18944x254 ![0, 1, 2, 3] bcast_S1x1x1x254_S12x16x18944x254_0_1_2_3 (broadcastInDim S1x1x1x254 ![3] bcast_S254_S1x1x1x254_3 (Host.powf (broadcastInDim S254 ![] bcast_S_S254 (constant S_ .f32 0x40000000#32)) (addf (broadcastInDim S254 ![] bcast_S_S254 (constant S_ .f32 0xC2FC0000#32)) (sitofp .f32 (iotaInDim S254 32 0) : FVec Ideal S254 .f32)))))) natLt_1_32

/-- Where the magnitude is infinite. -/
def infTermDy (A : FVec Ideal S12x16x18944 .f32) : IVec S12x16x18944 1 :=
  cmpf .oeq A (broadcastInDim S12x16x18944 ![] bcast_S_S12x16x18944 (constant S_ .f32 0x7F800000#32))

/-- The exponent from that and the comparisons. -/
def expTermDy (I : IVec S12x16x18944 1) (L : IVec S12x16x18944x254 32) : IVec S12x16x18944 32 :=
  select I (broadcastInDim S12x16x18944 ![] bcast_S_S12x16x18944 (id (constantI S_ 32 0#32))) (subi (Host.reduce IntOp.addi L (constantI S_ 32 0#32) reducesTo_S12x16x18944x254_S12x16x18944_d3 h_S_) (broadcastInDim S12x16x18944 ![] bcast_S_S12x16x18944 (constantI S_ 32 126#32)))

/-- Where a block is all zero. -/
def zeroTermDy (A : FVec Ideal S12x16x18944 .f32) : IVec S12x16x18944 1 :=
  cmpf .oeq A (broadcastInDim S12x16x18944 ![] bcast_S_S12x16x18944 (constant S_ .f32 0x00000000#32))

/-- The factors that the blocks are multiplied by. -/
def multTermDy (Z : IVec S12x16x18944 1) (E : IVec S12x16x18944 32) : FVec Ideal S12x16x18944 .f32 :=
  select Z (broadcastInDim S12x16x18944 ![] bcast_S_S12x16x18944 (constant S_ .f32 0x3F800000#32)) (Host.powf (broadcastInDim S12x16x18944 ![] bcast_S_S12x16x18944 (constant S_ .f32 0x40000000#32)) (sitofp .f32 (subi (broadcastInDim S12x16x18944 ![] bcast_S_S12x16x18944 (constantI S_ 32 7#32)) E)))

/-- The scales. -/
def scaleTermDy (Z : IVec S12x16x18944 1) (E : IVec S12x16x18944 32) : FVec Ideal S12x16x18944 .f32 :=
  select Z (broadcastInDim S12x16x18944 ![] bcast_S_S12x16x18944 (constant S_ .f32 0x3F800000#32)) (Host.powf (broadcastInDim S12x16x18944 ![] bcast_S_S12x16x18944 (constant S_ .f32 0x40000000#32)) (sitofp .f32 (subi E (broadcastInDim S12x16x18944 ![] bcast_S_S12x16x18944 (constantI S_ 32 7#32)))))

/-- The seeded flat positions. -/
def posTermDy (S : IVec S2 32) : IVec S12x1024x18944 32 :=
  xori (addi (muli (addi (muli (iotaInDim S12x1024x18944 32 0) (broadcastInDim S12x1024x18944 ![] bcast_S_S12x1024x18944 (constantI S_ 32 1024#32))) (iotaInDim S12x1024x18944 32 1)) (broadcastInDim S12x1024x18944 ![] bcast_S_S12x1024x18944 (constantI S_ 32 18944#32))) (iotaInDim S12x1024x18944 32 2)) (broadcastInDim S12x1024x18944 ![] bcast_S_S12x1024x18944 (shapeCast _ (extractStridedSlice S1 ![1] S slices_S2_S1_1) shapeCasts_S1_S_))

/-- The hash's two rounds of shift and multiplication. -/
def roundTermDy (k c : BitVec 32) (P : IVec S12x1024x18944 32) : IVec S12x1024x18944 32 :=
  muli (xori P (Host.shrui P (broadcastInDim S12x1024x18944 ![] bcast_S_S12x1024x18944 (constantI S_ 32 k)))) (broadcastInDim S12x1024x18944 ![] bcast_S_S12x1024x18944 (constantI S_ 32 c))

/-- The codes. -/
def codesTermDy (X : FVec Ideal S12x1024x18944 .bf16) (M : FVec Ideal S12x16x18944 .f32) (H : IVec S12x1024x18944 32) : IVec S12x1024x18944 8 :=
  shapeCast _ (trunci 8 (fptosi 32 (minimumf (broadcastInDim S12x16x64x18944 ![] bcast_S_S12x16x64x18944 (sitofp .f32 (constantI S_ 32 127#32))) (maximumf (broadcastInDim S12x16x64x18944 ![] bcast_S_S12x16x64x18944 (sitofp .f32 (constantI S_ 32 4294967169#32))) (Host.floor (addf (mulf (shapeCast _ (extf .f32 X bitsLt_bf16_f32) shapeCasts_S12x1024x18944_S12x16x64x18944) (broadcastInDim S12x16x64x18944 ![0, 1, 2, 3] bcast_S12x16x1x18944_S12x16x64x18944_0_1_2_3 (broadcastInDim S12x16x1x18944 ![0, 1, 3] bcast_S12x16x18944_S12x16x1x18944_0_1_3 M))) (shapeCast _ (mulf (uitofp .f32 (Host.shrui (xori H (Host.shrui H (broadcastInDim S12x1024x18944 ![] bcast_S_S12x1024x18944 (constantI S_ 32 16#32)))) (broadcastInDim S12x1024x18944 ![] bcast_S_S12x1024x18944 (constantI S_ 32 8#32)))) (broadcastInDim S12x1024x18944 ![] bcast_S_S12x1024x18944 (constant S_ .f32 0x33800000#32))) shapeCasts_S12x1024x18944_S12x16x64x18944)))))) natLt_8_32) shapeCasts_S12x16x64x18944_S12x1024x18944

/-- The dequantised values. -/
def deqTermDy (C : IVec S12x1024x18944 8) (S : FVec Ideal S12x16x18944 .f32) : FVec Ideal S12x1024x18944 .bf16 :=
  shapeCast _ (mulf (shapeCast _ (sitofp .bf16 (extsi 32 C natLt_8_32) : FVec Ideal S12x1024x18944 .bf16) shapeCasts_S12x1024x18944_S12x16x64x18944) (broadcastInDim S12x16x64x18944 ![0, 1, 2, 3] bcast_S12x16x1x18944_S12x16x64x18944_0_1_2_3 (broadcastInDim S12x16x1x18944 ![0, 1, 3] bcast_S12x16x18944_S12x16x1x18944_0_1_3 (truncf .bf16 S bitsLt_bf16_f32)))) shapeCasts_S12x16x64x18944_S12x1024x18944

theorem amaxTermDy_apply (X : FVec Ideal S12x1024x18944 .bf16) (b : Fin 12) (q : Fin 16) (l : Fin 18944) :
    amaxTermDy X (ix3 b q l) = (amax (X : S12x1024x18944.Idx → EReal) b q l : EReal) := by
  unfold amaxTermDy
  pointwise
  unfold amax colMax
  rw [ofBits_neg_inf]
  refine congrArg (fun f => Finset.univ.fold max (⊥ : EReal) f) (funext fun i => ?_)
  have h : at3 (X : S12x1024x18944.Idx → EReal) b (64 * q + i) l = X (ix3 b ⟨q * 64 + i, by omega⟩ l) := by
    rw [Nat.mul_comm 64]
    exact at3_ix3 (X : S12x1024x18944.Idx → EReal) b ⟨q * 64 + i, by omega⟩ l
  exact congrArg (fun z : EReal => max z (-z)) h.symm

theorem leTermDy_apply (A : FVec Ideal S12x16x18944 .f32) (b : Fin 12) (q : Fin 16) (l : Fin 18944) (k : Fin 254) :
    leTermDy A (ix4 b q l k) = refLe (A (ix3 b q l)) k := by
  unfold leTermDy
  pointwise
  rfl

theorem infTermDy_apply (A : FVec Ideal S12x16x18944 .f32) (b : Fin 12) (q : Fin 16) (l : Fin 18944) :
    infTermDy A (ix3 b q l) = refInf (A (ix3 b q l)) := by
  unfold infTermDy
  pointwise
  rfl

theorem expTermDy_apply (I : IVec S12x16x18944 1) (L : IVec S12x16x18944x254 32) (b : Fin 12) (q : Fin 16) (l : Fin 18944) :
    expTermDy I L (ix3 b q l) = Scalar.select (I (ix3 b q l)) 0#32
      (IntOp.subi (Finset.univ.fold IntOp.addi 0#32 fun k : Fin 254 => L (ix4 b q l k)) 126#32) := by
  have h' : S12x16x18944x254.Reduces [3] S12x16x18944 := by decide
  refine congrArg (fun z => Scalar.select (I (ix3 b q l)) 0#32 (IntOp.subi z 126#32)) ((Host.reduce_eq_fold_single IntOp.addi L _ _ h' _ _).trans ?_)
  refine congrArg (fun f => Finset.univ.fold IntOp.addi 0#32 f) (funext fun k => congrArg L ?_)
  funext a
  match a with
  | 0 => rfl
  | 1 => rfl
  | 2 => rfl
  | 3 => rfl

theorem multTermDy_apply (Z : IVec S12x16x18944 1) (E : IVec S12x16x18944 32) (b : Fin 12) (q : Fin 16) (l : Fin 18944) :
    multTermDy Z E (ix3 b q l) = (Scalar.select (Z (ix3 b q l)) 1 (refPow (IntOp.subi 7#32 (E (ix3 b q l)))) : EReal) := by
  unfold multTermDy
  pointwise
  rfl

theorem scaleTermDy_apply (Z : IVec S12x16x18944 1) (E : IVec S12x16x18944 32) (b : Fin 12) (q : Fin 16) (l : Fin 18944) :
    scaleTermDy Z E (ix3 b q l) = (Scalar.select (Z (ix3 b q l)) 1 (refPow (IntOp.subi (E (ix3 b q l)) 7#32)) : EReal) := by
  unfold scaleTermDy
  pointwise
  rfl

theorem zeroTermDy_apply (A : FVec Ideal S12x16x18944 .f32) (b : Fin 12) (q : Fin 16) (l : Fin 18944) :
    zeroTermDy A (ix3 b q l) = refZero (A (ix3 b q l)) := by
  unfold zeroTermDy
  pointwise
  rfl

theorem posTermDy_apply (S : IVec S2 32) (b : Fin 12) (r : Fin 1024) (l : Fin 18944) :
    posTermDy S (ix3 b r l) = pos (S (ix1 1)) 18944 b r l := by
  unfold posTermDy
  pointwise
  exact ref_pos ..

theorem roundTermDy_apply (k c : BitVec 32) (P : IVec S12x1024x18944 32) (b : Fin 12) (r : Fin 1024) (l : Fin 18944) :
    roundTermDy k c P (ix3 b r l) = refRound k c (P (ix3 b r l)) := by
  unfold roundTermDy
  pointwise
  rfl

theorem codesTermDy_apply (X : FVec Ideal S12x1024x18944 .bf16) (M : FVec Ideal S12x16x18944 .f32) (H : IVec S12x1024x18944 32)
    (b : Fin 12) (r : Fin 1024) (l : Fin 18944) :
    codesTermDy X M H (ix3 b r l)
      = refCode (X (ix3 b r l)) (M (ix3 b ⟨r / 64, by omega⟩ l)) (H (ix3 b r l)) := by
  unfold codesTermDy
  pointwise
  rfl

theorem deqTermDy_apply (C : IVec S12x1024x18944 8) (S : FVec Ideal S12x16x18944 .f32) (b : Fin 12) (r : Fin 1024) (l : Fin 18944) :
    deqTermDy C S (ix3 b r l) = (refDeq (C (ix3 b r l)) (S (ix3 b ⟨r / 64, by omega⟩ l)) : EReal) := by
  unfold deqTermDy
  pointwise
  rfl

-- What the reference is, stage by stage, in these terms.
section named
variable (V : Valuation τ sig (Elt Ideal))

/-- The second array. -/
abbrev inDy : FVec Ideal S12x1024x18944 .bf16 := V (Proc.devRef .tc main_arg1)

/-- The whole chain up to the exponent, the scales, the factors, the hash and the codes. -/
def expDy : IVec S12x16x18944 32 := expTermDy (infTermDy (amaxTermDy (inDy V))) (leTermDy (amaxTermDy (inDy V)))
def zeroDy : IVec S12x16x18944 1 := zeroTermDy (amaxTermDy (inDy V))
def hashDy : IVec S12x1024x18944 32 := roundTermDy 15#32 2221713035#32 (roundTermDy 16#32 2146121005#32 (posTermDy (inSeeds V)))
def scalesDy : FVec Ideal S12x16x18944 .f32 := scaleTermDy (zeroDy V) (expDy V)
def codesDy : IVec S12x1024x18944 8 := codesTermDy (inDy V) (multTermDy (zeroDy V) (expDy V)) (hashDy V)

theorem res_v86 : res_main_v86 V = amaxTermDy (inDy V) := rfl
theorem res_v103 : res_main_v103 V = expDy V := rfl
theorem res_v105 : res_main_v105 V = zeroDy V := rfl
theorem res_v141 : res_main_v141 V = hashDy V := rfl

/-- The scales, at an element. -/
theorem scalesDy_apply (b : Fin 12) (q : Fin 16) (l : Fin 18944) :
    scalesDy V (ix3 b q l) = (refScale (amax (inDy V : S12x1024x18944.Idx → EReal) b q l) : EReal) := by
  refine (scaleTermDy_apply (zeroDy V) (expDy V) b q l).trans ?_
  unfold zeroDy expDy refScale refExp
  rw [zeroTermDy_apply, expTermDy_apply, infTermDy_apply, amaxTermDy_apply]
  refine congrArg (fun f => Scalar.select _ 1 (refPow (IntOp.subi (Scalar.select _ 0#32 (IntOp.subi (Finset.univ.fold IntOp.addi 0#32 f) 126#32)) 7#32))) (funext fun k => ?_)
  rw [leTermDy_apply, amaxTermDy_apply]

/-- The factors, at an element. -/
theorem multDy_apply (b : Fin 12) (q : Fin 16) (l : Fin 18944) :
    multTermDy (zeroDy V) (expDy V) (ix3 b q l) = (refMult (amax (inDy V : S12x1024x18944.Idx → EReal) b q l) : EReal) := by
  refine (multTermDy_apply (zeroDy V) (expDy V) b q l).trans ?_
  unfold zeroDy expDy refMult refExp
  rw [zeroTermDy_apply, expTermDy_apply, infTermDy_apply, amaxTermDy_apply]
  refine congrArg (fun f => Scalar.select _ 1 (refPow (IntOp.subi 7#32 (Scalar.select _ 0#32 (IntOp.subi (Finset.univ.fold IntOp.addi 0#32 f) 126#32))))) (funext fun k => ?_)
  rw [leTermDy_apply, amaxTermDy_apply]

/-- The codes, at an element. -/
theorem codesDy_apply (b : Fin 12) (r : Fin 1024) (l : Fin 18944) :
    codesDy V (ix3 b r l) = refCode (inDy V (ix3 b r l)) (refMult (amax (inDy V : S12x1024x18944.Idx → EReal) b (r / 64) l))
      (refHash (pos (inSeeds V (ix1 1)) 18944 b r l)) := by
  refine (codesTermDy_apply (inDy V) (multTermDy (zeroDy V) (expDy V)) (hashDy V) b r l).trans ?_
  have hh : hashDy V (ix3 b r l) = refHash (pos (inSeeds V (ix1 1)) 18944 b r l) := by
    unfold hashDy refHash
    rw [roundTermDy_apply, roundTermDy_apply, posTermDy_apply]
  rw [hh, multDy_apply]

/-- The dequantised values, at an element. -/
theorem deqDy_apply (b : Fin 12) (r : Fin 1024) (l : Fin 18944) :
    deqTermDy (codesDy V) (scalesDy V) (ix3 b r l)
      = (refDeq (refCode (inDy V (ix3 b r l)) (refMult (amax (inDy V : S12x1024x18944.Idx → EReal) b (r / 64) l))
          (refHash (pos (inSeeds V (ix1 1)) 18944 b r l))) (refScale (amax (inDy V : S12x1024x18944.Idx → EReal) b (r / 64) l)) : EReal) := by
  refine (deqTermDy_apply (codesDy V) (scalesDy V) b r l).trans ?_
  rw [codesDy_apply, scalesDy_apply]

end named

end Cert.ReferenceIdeal.Value

end
-- ==== Proof.RefRun.lean ====
/- The reference's run with its five results in terms of the stages, and its product as a sum over slabs and rows. -/
module

public import proofs.«01_k».proof.Proof.RefX
public import proofs.«01_k».proof.Proof.RefDy
public import Idealize.ShloMosaic.Lib.TwoAxisContraction

@[expose] public section

set_option maxRecDepth 16384

noncomputable section

namespace Cert.ReferenceIdeal.Value

open Idealize.ShloMosaic Cert.ReferenceIdeal Cert.ReferenceIdeal.Gen Cert.Bfp
open Idealize.ShloMosaic.ValueIdx (sum_contr2 contrEquiv2 contrEquiv2_symm_val0 contrEquiv2_symm_val1)
open Idealize.SL.Sem Idealize.ShloMosaic.StableHlo Idealize.ShloMosaic.TcCoe

/-- The reference's product at an element. -/
theorem dot_apply (L : FVec Ideal S12x1024x3584 .bf16) (R : FVec Ideal S12x1024x18944 .bf16) (i : Fin 3584) (j : Fin 18944) :
    Host.dotGeneral dot_S12x1024x3584_S12x1024x18944_S3584x18944_01_01_2_2_n_n none L R (ix2 i j)
      = (∑ b : Fin 12, ∑ k : Fin 1024, (L (ix3 b k i) : EReal) * (R (ix3 b k j) : EReal) : EReal) := by
  let D := dot_S12x1024x3584_S12x1024x18944_S3584x18944_01_01_2_2_n_n
  have hr : D.contr.rank = 2 := rfl
  have c0 : D.contr.size ⟨0, by rw [hr]; omega⟩ = 12 := rfl
  have c1 : D.contr.size ⟨1, by rw [hr]; omega⟩ = 1024 := rfl
  refine (Ideal.dotGeneral_apply D none .single L R (ix2 i j)).trans ?_
  rw [sum_contr2 D 12 1024 hr c0 c1]
  refine Finset.sum_congr rfl fun b _ => Finset.sum_congr rfl fun k _ => ?_
  have h0 := contrEquiv2_symm_val0 D 12 1024 hr c0 c1 (b, k)
  have h1 := contrEquiv2_symm_val1 D 12 1024 hr c0 c1 (b, k)
  have el : D.lhsIdx (ix2 i j) ((contrEquiv2 D 12 1024 hr c0 c1).symm (b, k)) = ix3 b k i := by
    funext a; apply Fin.ext
    match a with
    | ⟨0, _⟩ => exact h0
    | ⟨1, _⟩ => exact h1
    | ⟨2, _⟩ => rfl
  have er : D.rhsIdx (ix2 i j) ((contrEquiv2 D 12 1024 hr c0 c1).symm (b, k)) = ix3 b k j := by
    funext a; apply Fin.ext
    match a with
    | ⟨0, _⟩ => exact h0
    | ⟨1, _⟩ => exact h1
    | ⟨2, _⟩ => rfl
  rw [el, er]

/-- The reference's product, in terms of the stages. -/
theorem res_v174 (V : Valuation τ sig (Elt Ideal)) : res_main_v174 V
    = Host.dotGeneral dot_S12x1024x3584_S12x1024x18944_S3584x18944_01_01_2_2_n_n none
        (deqTermX (codesX V) (scalesX V)) (deqTermDy (codesDy V) (scalesDy V)) := by
  unfold res_main_v174
  simp only [id_eq]
  rfl

/-- The reference runs to its end with its five results and its arguments unchanged. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v174)
        = Host.dotGeneral dot_S12x1024x3584_S12x1024x18944_S3584x18944_01_01_2_2_n_n none
          (deqTermX (codesX (launchContents m c)) (scalesX (launchContents m c)))
          (deqTermDy (codesDy (launchContents m c)) (scalesDy (launchContents m c)))
      ∧ r.2.mem ((c.tc : Thread nD τ).loc main_v78_0) = codesX (launchContents m c)
      ∧ r.2.mem ((c.tc : Thread nD τ).loc main_v78_1) = scalesX (launchContents m c)
      ∧ r.2.mem ((c.tc : Thread nD τ).loc main_v157_0) = codesDy (launchContents m c)
      ∧ r.2.mem ((c.tc : Thread nD τ).loc main_v157_1) = scalesDy (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      have h' := h c
      ⟨h'.1.trans (res_v174 (launchContents m c)), (h'.2.1.trans (id_eq _)).trans rfl, (h'.2.2.1.trans (id_eq _)).trans rfl,
        (h'.2.2.2.1.trans (id_eq _)).trans rfl, (h'.2.2.2.2.1.trans (id_eq _)).trans rfl, h'.2.2.2.2.2⟩)
    (run m ρ)

end Cert.ReferenceIdeal.Value

end
-- ==== Proof.Equal.lean ====
/- The reference's five results are the kernel's: codes, scales and product, where every block's greatest magnitude is
   exact. -/
module

public import proofs.«01_k».proof.Proof.Exact
public import proofs.«01_k».proof.Proof.RefRun
public import proofs.«01_k».proof.Proof.Array1

@[expose] public section

set_option maxRecDepth 16384

noncomputable section

namespace Cert.Bfp

open Idealize.ShloMosaic Cert.ReferenceIdeal Cert.ReferenceIdeal.Gen Cert.ReferenceIdeal.Value

/-- Every block of an array of sixteen blocks a slab is exact. -/
def AllExact {n2 : ℕ} (X : (⟨3, ![12, 1024, n2]⟩ : Shape).Idx → EReal) : Prop :=
  ∀ (b : Fin 12) (q : Fin 16) (l : Fin n2), Exact (amax X b q l)

section element
variable {n2 : ℕ} {X : (⟨3, ![12, 1024, n2]⟩ : Shape).Idx → EReal} (h : AllExact X) (w : BitVec 32)
include h

/-- The kernel's scale at an element is the reference's. -/
theorem scalesOf_apply (b : Fin 12) (q : Fin 16) (l : Fin n2) : scalesOf X 16 (ix3 b q l) = refScale (amax X b q l) :=
  scale_eq (h b q l)

/-- The kernel's code at an element is the reference's. -/
theorem codesOf_apply (b : Fin 12) (r : Fin 1024) (l : Fin n2) :
    codesOf X w (ix3 b r l) = refCode (X (ix3 b r l)) (refMult (amax X b (r / 64) l)) (refHash (pos w n2 b r l)) := by
  rw [refCode_eq, ← mult_eq (h b ⟨r / 64, by omega⟩ l), ← at3_ix3 X b r l]
  rfl

/-- The kernel's dequantised element is the reference's. -/
theorem deq_apply (b : Fin 12) (r : Fin 1024) (l : Fin n2) :
    deq X w b r l = refDeq (refCode (X (ix3 b r l)) (refMult (amax X b (r / 64) l)) (refHash (pos w n2 b r l)))
      (refScale (amax X b (r / 64) l)) := by
  rw [refCode_eq, refDeq_eq, ← mult_eq (h b ⟨r / 64, by omega⟩ l), ← scale_eq (h b ⟨r / 64, by omega⟩ l), ← at3_ix3 X b r l]
  rfl

end element

section results
variable (V : Valuation τ sig (Elt Ideal))

/-- The reference's arrays are the kernel's. -/
theorem scalesX_eq (h : AllExact (inX V : S12x1024x3584.Idx → EReal)) : scalesX V = scalesOf (inX V : S12x1024x3584.Idx → EReal) 16 := by
  funext y
  rw [← ix3_eta y]
  exact (scalesX_apply V (y 0) (y 1) (y 2)).trans (scalesOf_apply h (y 0) (y 1) (y 2)).symm
theorem codesX_eq (h : AllExact (inX V : S12x1024x3584.Idx → EReal)) :
    codesX V = codesOf (inX V : S12x1024x3584.Idx → EReal) (inSeeds V (ix1 0)) := by
  funext y
  rw [← ix3_eta y]
  exact (codesX_apply V (y 0) (y 1) (y 2)).trans (codesOf_apply h _ (y 0) (y 1) (y 2)).symm
theorem scalesDy_eq (h : AllExact (inDy V : S12x1024x18944.Idx → EReal)) : scalesDy V = scalesOf (inDy V : S12x1024x18944.Idx → EReal) 16 := by
  funext y
  rw [← ix3_eta y]
  exact (scalesDy_apply V (y 0) (y 1) (y 2)).trans (scalesOf_apply h (y 0) (y 1) (y 2)).symm
theorem codesDy_eq (h : AllExact (inDy V : S12x1024x18944.Idx → EReal)) :
    codesDy V = codesOf (inDy V : S12x1024x18944.Idx → EReal) (inSeeds V (ix1 1)) := by
  funext y
  rw [← ix3_eta y]
  exact (codesDy_apply V (y 0) (y 1) (y 2)).trans (codesOf_apply h _ (y 0) (y 1) (y 2)).symm

/-- The product, as a sum over slabs of sums over rows, is the kernel's running sum. -/
theorem product_eq (hx : AllExact (inX V : S12x1024x3584.Idx → EReal)) (hd : AllExact (inDy V : S12x1024x18944.Idx → EReal)) :
    Host.dotGeneral dot_S12x1024x3584_S12x1024x18944_S3584x18944_01_01_2_2_n_n none
        (deqTermX (codesX V) (scalesX V)) (deqTermDy (codesDy V) (scalesDy V))
      = Cert.KernelIdeal.Value.prodOf (deqT (inX V : S12x1024x3584.Idx → EReal) (inSeeds V (ix1 0)))
          (inDy V : S12x1024x18944.Idx → EReal) (inSeeds V (ix1 1)) := by
  funext y
  rw [← ix2_eta y]
  refine (dot_apply _ _ (y 0) (y 1)).trans ?_
  refine Eq.trans ?_ (Finset.sum_range fun b => Cert.KernelIdeal.Value.slab (deqT (inX V : S12x1024x3584.Idx → EReal) (inSeeds V (ix1 0)))
    (inDy V : S12x1024x18944.Idx → EReal) (inSeeds V (ix1 1)) b (y 0).val (y 1).val).symm
  refine Finset.sum_congr rfl fun b _ => Finset.sum_congr rfl fun k _ => ?_
  refine congrArg₂ (· * ·) ?_ ?_
  · refine (deqX_apply V b k (y 0)).trans ((deq_apply hx _ b k (y 0)).symm.trans ?_)
    exact (at3_ix3 (deqT (inX V : S12x1024x3584.Idx → EReal) (inSeeds V (ix1 0))) b (y 0) k).symm
  · exact (deqDy_apply V b k (y 1)).trans (deq_apply hd _ b k (y 1)).symm

end results

end Cert.Bfp

end
-- ==== Proof.Pre.lean ====
/- The precondition read back: every block's greatest magnitude, in both arrays, is zero or at least `2 ^ -120`. -/
module

public import proofs.«01_k».proof.Proof.Exact
public import proofs.«01_k».proof.Proof.RefX
public import proofs.«01_k».proof.Proof.RefDy
public import proofs.«01_k».proof.Proof.Gen.Pre_scales_exact
public import Idealize.ShloMosaic.Lib.ReduceAll

@[expose] public section

set_option maxRecDepth 16384

noncomputable section

namespace Cert.Pre_scales_exact

open Idealize.ShloMosaic Cert.Bfp Facts

/-- The bound. -/
theorem ofBits_lo : Ideal.ofBits .f32 0x03800000#32 = (((2 : ℝ) ^ (-120 : ℤ) : ℝ) : EReal) := by
  simp [Ideal.ofBits, Ideal.ieee, -EReal.coe_mul]; norm_num

/-- The test at every block. -/
def okTerm {s : Shape} (hb : S_.BroadcastsInDim s (![] : Fin 0 → Fin s.rank)) (A : FVec Ideal s .f32) : IVec s 1 :=
  ori (cmpf .oeq A (broadcastInDim s ![] hb (constant S_ .f32 0x00000000#32)))
    (cmpf .oge A (broadcastInDim s ![] hb (constant S_ .f32 0x03800000#32)))

/-- Where it holds the magnitude is exact. -/
theorem okTerm_exact {s : Shape} (hb : S_.BroadcastsInDim s (![] : Fin 0 → Fin s.rank)) (A : FVec Ideal s .f32) (i : s.Idx)
    (h : okTerm hb A i = 1#1) : Exact (A i : EReal) := by
  have key : ∀ a : EReal, IntOp.ori (BitVec.ofBool (decide (a = Ideal.ofBits .f32 0x00000000#32)))
      (BitVec.ofBool (decide (Ideal.ofBits .f32 0x03800000#32 ≤ a))) = 1#1 → Exact a := by
    intro a ha
    rw [ofBits_zero, ofBits_lo] at ha
    by_cases h0 : a = 0
    · exact Or.inl h0
    by_cases h1 : (((2 : ℝ) ^ (-120 : ℤ) : ℝ) : EReal) ≤ a
    · exact Or.inr h1
    · rw [decide_eq_false h0, decide_eq_false h1] at ha
      exact absurd ha (by decide)
  exact key (A i) h

variable [Facts]

/-- The predicate is the conjunction of the two arrays' tests. -/
theorem fn_eq (X : FVec Ideal S12x1024x3584 .bf16) (Y : FVec Ideal S12x1024x18944 .bf16) (S : IVec S2 32) :
    fn (F := Ideal) X Y S = andi
      (Host.reduce IntOp.andi (okTerm bcast_S_S12x16x3584 (Cert.ReferenceIdeal.Value.amaxTermX X)) (constantI S_ 1 1#1)
        reducesTo_S12x16x3584_S_d0_1_2 h_S_)
      (Host.reduce IntOp.andi (okTerm bcast_S_S12x16x18944 (Cert.ReferenceIdeal.Value.amaxTermDy Y)) (constantI S_ 1 1#1)
        reducesTo_S12x16x18944_S_d0_1_2 h_S_) := rfl

/-- Under the precondition every block of both arrays is exact. -/
theorem exact (X : FVec Ideal S12x1024x3584 .bf16) (Y : FVec Ideal S12x1024x18944 .bf16) (S : IVec S2 32)
    (h : fn (F := Ideal) X Y S = fun _ => 1#1) :
    (∀ (b : Fin 12) (q : Fin 16) (l : Fin 3584), Exact (amax (X : S12x1024x3584.Idx → EReal) b q l))
    ∧ ∀ (b : Fin 12) (q : Fin 16) (l : Fin 18944), Exact (amax (Y : S12x1024x18944.Idx → EReal) b q l) := by
  have e := congrFun ((fn_eq X Y S).symm.trans h) ix0
  obtain ⟨e1, e2⟩ := IntOp.andi_eq_one.1 e
  haveI : Subsingleton S_.Idx := ⟨fun a b => funext fun k => k.elim0⟩
  constructor
  · intro b q l
    rw [← Cert.ReferenceIdeal.Value.amaxTermX_apply X b q l]
    exact okTerm_exact _ _ _ (Host.reduce_andi_all _ _ _ _ _ e1 _)
  · intro b q l
    rw [← Cert.ReferenceIdeal.Value.amaxTermDy_apply Y b q l]
    exact okTerm_exact _ _ _ (Host.reduce_andi_all _ _ _ _ _ e2 _)

end Cert.Pre_scales_exact

end
-- ==== Proof.Algebraic.lean ====
/- The ideal kernel against the reference: from memories that agree on the arguments and meet the precondition, both run
   and end with equal results. -/
module

public import proofs.«01_k».proof.Defs
public import proofs.«01_k».proof.Proof.KernelRun
public import proofs.«01_k».proof.Proof.Equal
public import proofs.«01_k».proof.Proof.Pre

@[expose] public section

set_option maxRecDepth 16384

noncomputable section

namespace Cert.Bfp

open Idealize.ShloMosaic Idealize.SL.Sem Idealize.ShloMosaic.StableHlo Idealize.ShloMosaic.TcCoe
open Cert.KernelIdeal.Value (argX argDy argSeeds prodOf)
open Cert.ReferenceIdeal.Value (inX inDy inSeeds)

/-- Both programs run and end with the same five results. -/
theorem algebraic : Cert.algebraic_KernelIdeal_ReferenceIdeal_pre_scales_exact (hKernelIdeal := Cert.KernelIdeal.Gen.facts)
    (hReferenceIdeal := Cert.ReferenceIdeal.Gen.facts) (hPre_scales_exact := Cert.Pre_scales_exact.Gen.facts) := by
  intro m g m' g' hpre hagree
  refine ⟨fun c => prodOf (deqT (argX m c) (argSeeds m c (ix1 0))) (argDy m c) (argSeeds m c (ix1 1)),
    fun c => codesOf (argX m c) (argSeeds m c (ix1 0)), fun c => scalesOf (argX m c) 16,
    fun c => codesOf (argDy m c) (argSeeds m c (ix1 1)), fun c => scalesOf (argDy m c) 16,
    Cert.KernelIdeal.Value.run m g, ?_⟩
  refine (θ_run Cert.ReferenceIdeal.defs _ _).mono (fun r h c => ?_) (Cert.ReferenceIdeal.Value.run_stages m' g')
  have h' := h c
  have e0 : inX (launchContents m' c) = argX m c := (hagree c).1
  have e1 : inDy (launchContents m' c) = argDy m c := (hagree c).2.1
  have e2 : inSeeds (launchContents m' c) = argSeeds m c := (hagree c).2.2
  have hex := Cert.Pre_scales_exact.exact _ _ _ (hpre c)
  have hx : AllExact (inX (launchContents m' c) : Cert.ReferenceIdeal.S12x1024x3584.Idx → EReal) := by
    rw [e0]; exact hex.1
  have hd : AllExact (inDy (launchContents m' c) : Cert.ReferenceIdeal.S12x1024x18944.Idx → EReal) := by
    rw [e1]; exact hex.2
  refine ⟨h'.1.trans ((product_eq _ hx hd).trans ?_), h'.2.1.trans ((codesX_eq _ hx).trans ?_),
    h'.2.2.1.trans ((scalesX_eq _ hx).trans ?_), h'.2.2.2.1.trans ((codesDy_eq _ hd).trans ?_),
    h'.2.2.2.2.1.trans ((scalesDy_eq _ hd).trans ?_), h'.2.2.2.2.2⟩
  · rw [e0, e1, e2]
  · rw [e0, e2]
  · rw [e0]
  · rw [e1, e2]
  · rw [e1]

end Cert.Bfp

end
-- ==== Proof.lean ====
/- The proof of the certificate's claims: it assembles what the modules under Proof/ prove. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KernelIdealFrame
public import proofs.«01_k».proof.Proof.Gen.ReferenceIdeal
public import proofs.«01_k».proof.Proof.Gen.ReferenceIdeal.Run
public import proofs.«01_k».proof.Proof.Gen.Pre_scales_exact
public import proofs.«01_k».proof.Proof.Algebraic
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The reference terminates from any memory with zero counters, leaves its arguments as they were and, declaring no
    semaphore, every counter at zero. -/
theorem quiescent_reference : Cert.quiescent_ReferenceIdeal (hReferenceIdeal := Cert.ReferenceIdeal.Gen.facts) :=
  fun m ρ _ => (θ_run Cert.ReferenceIdeal.defs _ _).mono
    (fun r h => ⟨fun c => (h c).2.2.2.2.2, sem_eq_zero_of_no_sems (by decide) r.2⟩)
    (Cert.ReferenceIdeal.Value.run (F := Ideal) m ρ)

/-- The certificate's claims together. The runs need no precondition, so they hold under it. -/
theorem claim : Cert.Claim := ⟨Cert.Kernel.Gen.facts, Cert.KernelIdeal.Gen.facts, Cert.ReferenceIdeal.Gen.facts,
  Cert.Pre_scales_exact.Gen.facts,
  fun m ρ _ => Cert.Kernel.Gen.frame m ρ,
  fun m ρ _ => Cert.KernelIdeal.Gen.frame m ρ,
  fun m ρ _ => Cert.KernelIdeal.Gen.frame m ρ,
  quiescent_reference,
  fun m ρ _ => quiescent_reference m ρ trivial,
  trivial,
  Cert.Bfp.algebraic⟩

end Cert.Proof

end
